-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S1 : Shape := ⟨1, ![1]⟩
abbrev S4096x2048 : Shape := ⟨2, ![4096, 2048]⟩
abbrev S4096x4096 : Shape := ⟨2, ![4096, 4096]⟩
abbrev S2x512x2048 : Shape := ⟨3, ![2, 512, 2048]⟩
abbrev S4x256x4096 : Shape := ⟨3, ![4, 256, 4096]⟩
abbrev S2x256x2048 : Shape := ⟨3, ![2, 256, 2048]⟩
abbrev S2 : Shape := ⟨1, ![2]⟩
abbrev S4 : Shape := ⟨1, ![4]⟩
abbrev S6 : Shape := ⟨1, ![6]⟩
abbrev S_ : Shape := ⟨0, ![]⟩
abbrev S1x256x4096 : Shape := ⟨3, ![1, 256, 4096]⟩
abbrev S256x4096 : Shape := ⟨2, ![256, 4096]⟩
abbrev S1x512x2048 : Shape := ⟨3, ![1, 512, 2048]⟩
abbrev S512x2048 : Shape := ⟨2, ![512, 2048]⟩
abbrev S256x2048 : Shape := ⟨2, ![256, 2048]⟩
abbrev S1x256x2048 : Shape := ⟨3, ![1, 256, 2048]⟩

abbrev nBuf : Space → Nat
  | .hbm => 5
  | .vmem => 5
  | .smem => 2
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S2x512x2048, .f32⟩
  | .local _ .vmem, ⟨3, _⟩ => ⟨S4x256x4096, .f32⟩
  | .local _ .vmem, ⟨4, _⟩ => ⟨S2x256x2048, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) : Fin 2 → Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v35 : BitVec 32 := Scalar.muli v2 c2048_i32
  ![0, v35.toNat]
def k0_off2 (d0 : Dev nD) : Fin 2 → Nat :=
  let c512_i32_40 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_35 : BitVec 32 := 2048#32
  let v41 : BitVec 32 := Scalar.muli v2 c2048_i32_35
  ![512, v41.toNat]
def k0_off3 (d0 : Dev nD) (c0_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v55 : BitVec 32 := Scalar.muli v2 c1024_i32
  let v56 : BitVec 32 := Scalar.addi v55 c0_i32_50
  let v57 : Index := Scalar.indexCast v56
  let c0_51 : Index := 0#32
  ![v57.toNat, 0]
def k0_off4 (d0 : Dev nD) (c4_i32_52 : BitVec 32) (c0_i32_55 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : BitVec 32 := Scalar.addi v2 c4_i32_52
  let c4_i32_53 : BitVec 32 := 4#32
  let v62 : BitVec 32 := Scalar.remsi v61 c4_i32_53
  let c1024_i32_54 : BitVec 32 := 1024#32
  let v63 : BitVec 32 := Scalar.muli v62 c1024_i32_54
  let v64 : BitVec 32 := Scalar.addi v63 c0_i32_55
  let c0_i32_60 : BitVec 32 := 0#32
  ![v64.toNat, 0]
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_58 : BitVec 32 := 1#32
  let v65 : BitVec 32 := Scalar.muli v6 c1_i32_58
  let v66 : BitVec 32 := Scalar.addi c0_i32_59 v65
  v66.toNat
def k0_off5 (d0 : Dev nD) (c0_i32_73 : BitVec 32) (c0_i32_77 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.addi v2 c0_i32_73
  let c4_i32_74 : BitVec 32 := 4#32
  let v88 : BitVec 32 := Scalar.remsi v87 c4_i32_74
  let c1024_i32_75 : BitVec 32 := 1024#32
  let v89 : BitVec 32 := Scalar.muli v88 c1024_i32_75
  let c512_i32_76 : BitVec 32 := 512#32
  let v90 : BitVec 32 := Scalar.addi v89 c512_i32_76
  let v91 : BitVec 32 := Scalar.addi v90 c0_i32_77
  let c0_i32_82 : BitVec 32 := 0#32
  ![v91.toNat, 0]
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_80 : BitVec 32 := 1#32
  let v92 : BitVec 32 := Scalar.muli v4 c1_i32_80
  let v93 : BitVec 32 := Scalar.addi c0_i32_81 v92
  v93.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_101 : BitVec 32 := 1#32
  let v118 : BitVec 32 := Scalar.muli v6 c1_i32_101
  let v119 : BitVec 32 := Scalar.addi c0_i32_102 v118
  v119.toNat
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_123 : BitVec 32 := 1#32
  let v145 : BitVec 32 := Scalar.muli v4 c1_i32_123
  let v146 : BitVec 32 := Scalar.addi c0_i32_124 v145
  v146.toNat
def k0_off6 (d0 : Dev nD) : Fin 2 → Nat :=
  let c1024_i32_148 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_143 : BitVec 32 := 2048#32
  let v170 : BitVec 32 := Scalar.muli v2 c2048_i32_143
  ![1024, v170.toNat]
def k0_off7 (d0 : Dev nD) : Fin 2 → Nat :=
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_158 : BitVec 32 := 2048#32
  let v187 : BitVec 32 := Scalar.muli v2 c2048_i32_158
  ![1536, v187.toNat]
def k0_off8 (d0 : Dev nD) : Fin 2 → Nat :=
  let c2048_i32_177 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_172 : BitVec 32 := 2048#32
  let v204 : BitVec 32 := Scalar.muli v2 c2048_i32_172
  ![2048, v204.toNat]
def k0_off9 (d0 : Dev nD) : Fin 2 → Nat :=
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_187 : BitVec 32 := 2048#32
  let v221 : BitVec 32 := Scalar.muli v2 c2048_i32_187
  ![2560, v221.toNat]
def k0_off10 (d0 : Dev nD) : Fin 2 → Nat :=
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_201 : BitVec 32 := 2048#32
  let v238 : BitVec 32 := Scalar.muli v2 c2048_i32_201
  ![3072, v238.toNat]
def k0_off11 (d0 : Dev nD) : Fin 2 → Nat :=
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_215 : BitVec 32 := 2048#32
  let v255 : BitVec 32 := Scalar.muli v2 c2048_i32_215
  ![3584, v255.toNat]
def k0_dev7 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_232 : BitVec 32 := 1#32
  let v271 : BitVec 32 := Scalar.muli v6 c1_i32_232
  let v272 : BitVec 32 := Scalar.addi c0_i32_233 v271
  v272.toNat
def k0_dev8 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_249 : BitVec 32 := 1#32
  let v290 : BitVec 32 := Scalar.muli v4 c1_i32_249
  let v291 : BitVec 32 := Scalar.addi c0_i32_250 v290
  v291.toNat
def k0_dev9 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_283 : BitVec 32 := 1#32
  let v330 : BitVec 32 := Scalar.muli v6 c1_i32_283
  let v331 : BitVec 32 := Scalar.addi c0_i32_284 v330
  v331.toNat
def k0_dev10 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_300 : BitVec 32 := 1#32
  let v349 : BitVec 32 := Scalar.muli v4 c1_i32_300
  let v350 : BitVec 32 := Scalar.addi c0_i32_301 v349
  v350.toNat
def k0_off12 (d0 : Dev nD) (c0_i32_305 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_304 : BitVec 32 := 1024#32
  let v357 : BitVec 32 := Scalar.muli v2 c1024_i32_304
  let v358 : BitVec 32 := Scalar.addi v357 c0_i32_305
  let c0_i32_315 : BitVec 32 := 0#32
  ![v358.toNat, 0]
def k0_off13 (d0 : Dev nD) (c3_i32_127 : BitVec 32) (c0_i32_379 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v153 : BitVec 32 := Scalar.addi v2 c3_i32_127
  let c4_i32_128 : BitVec 32 := 4#32
  let v154 : BitVec 32 := Scalar.remsi v153 c4_i32_128
  let c1024_i32_378 : BitVec 32 := 1024#32
  let v444 : BitVec 32 := Scalar.muli v154 c1024_i32_378
  let v445 : BitVec 32 := Scalar.addi v444 c0_i32_379
  let v446 : Index := Scalar.indexCast v445
  let c0_380 : Index := 0#32
  ![v446.toNat, 0]
def k0_off14 (d0 : Dev nD) (c3_i32_127 : BitVec 32) (c0_i32_379 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v153 : BitVec 32 := Scalar.addi v2 c3_i32_127
  let c4_i32_128 : BitVec 32 := 4#32
  let v154 : BitVec 32 := Scalar.remsi v153 c4_i32_128
  let c1024_i32_378 : BitVec 32 := 1024#32
  let v444 : BitVec 32 := Scalar.muli v154 c1024_i32_378
  let v445 : BitVec 32 := Scalar.addi v444 c0_i32_379
  let c0_i32_390 : BitVec 32 := 0#32
  ![v445.toNat, 0]
def k0_dev11 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_405 : BitVec 32 := 1#32
  let v472 : BitVec 32 := Scalar.muli v6 c1_i32_405
  let v473 : BitVec 32 := Scalar.addi c0_i32_406 v472
  v473.toNat
def k0_dev12 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_422 : BitVec 32 := 1#32
  let v491 : BitVec 32 := Scalar.muli v4 c1_i32_422
  let v492 : BitVec 32 := Scalar.addi c0_i32_423 v491
  v492.toNat
def k0_dev13 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_477 : BitVec 32 := 1#32
  let v555 : BitVec 32 := Scalar.muli v6 c1_i32_477
  let v556 : BitVec 32 := Scalar.addi c0_i32_478 v555
  v556.toNat
def k0_dev14 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_494 : BitVec 32 := 1#32
  let v574 : BitVec 32 := Scalar.muli v4 c1_i32_494
  let v575 : BitVec 32 := Scalar.addi c0_i32_495 v574
  v575.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Geom.lean ====
/-
# The buffers' pieces and what they hold

The gathered rows and the result are sixteen blocks of 256 rows: block `a` is the rows `256*a … 256*a + 255`, `a = 4*o + q` for quarter
`q` of device `o`'s rows. The three staging buffers are cut by their leading coordinate. Each buffer gets ONE contents function, and every
load, store and copy of the body is stated against it: what a store leaves on its rows, what a copy leaves in its slot, what a load reads.
-/
module

public import proofs.«01_k».proof.Proof.Gen.KernelIdeal.Frame
public import proofs.«01_k».proof.Proof.Gen.KernelIdeal.Skeleton
public import Idealize.ShloMosaic.Lib.Pipeline.ValueKit.Geometry
public import Idealize.ShloMosaic.Lib.ValueIdxCore

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI

variable {F : FTy → Type} [FloatOps F]
variable (m : (ℓ : Loc nD τ sig) → Buf (Elt F) ℓ)

/-! ## The memrefs the body is called with -/

abbrev xM : Memref sig .tc .hbm S1024x4096 .f32 := Memref.whole main_arg0
abbrev wM : Memref sig .tc .hbm S4096x8192 .f32 := Memref.whole main_arg1
abbrev oM : Memref sig .tc .hbm S4096x2048 .f32 := Memref.whole main_v1
abbrev gM : Memref sig .tc .vmem S4096x4096 .fp8e4m3 := Memref.whole cc0_scratch0
abbrev w8M : Memref sig .tc .vmem S4096x2048 .fp8e4m3 := Memref.whole cc0_scratch1
abbrev wsM : Memref sig .tc .vmem S2x512x2048 .f32 := Memref.whole cc0_scratch2
abbrev xsM : Memref sig .tc .vmem S4x256x4096 .f32 := Memref.whole cc0_scratch3
abbrev stM : Memref sig .tc .vmem S2x256x2048 .f32 := Memref.whole cc0_scratch4
abbrev sxM : Memref sig .tc .smem S1 .f32 := Memref.whole cc0_stg0_0
abbrev swM : Memref sig .tc .smem S1 .f32 := Memref.whole cc0_stg1_0

/-! ## Pieces -/

/-- The 256 rows of block `a`, of a buffer with `R` rows of `n`. -/
def rows (R n a : ℕ) : Finset (⟨2, ![R, n]⟩ : Shape).Idx := Finset.univ.filter fun i => 256 * a ≤ (i 0 : ℕ) ∧ (i 0 : ℕ) < 256 * a + 256

/-- Slot `p` of a staging buffer with `K` slots. -/
def slot (K R n p : ℕ) : Finset (⟨3, ![K, R, n]⟩ : Shape).Idx := Finset.univ.filter fun i => (i 0 : ℕ) = p

theorem mem_rows {R n a : ℕ} {i : (⟨2, ![R, n]⟩ : Shape).Idx} : i ∈ rows R n a ↔ 256 * a ≤ (i 0 : ℕ) ∧ (i 0 : ℕ) < 256 * a + 256 := by
  simp [rows]

theorem mem_slot {K R n p : ℕ} {i : (⟨3, ![K, R, n]⟩ : Shape).Idx} : i ∈ slot K R n p ↔ (i 0 : ℕ) = p := by simp [slot]

theorem rect_rows {R n a : ℕ} {off : Fin 2 → ℕ} (h : off = ![256 * a, 0]) (inb) :
    (Rect.unit (s := (⟨2, ![R, n]⟩ : Shape)) off ![256, n] inb).set = rows R n a := by
  subst h; ext i; rw [Rect.mem_set_unit, mem_rows, Fin.forall_fin_two]
  have h1 : (i 1 : ℕ) < n := (i 1).isLt
  simp only [Matrix.cons_val_zero, Matrix.cons_val_one]
  omega

theorem rect_slot {K R n p : ℕ} {off : Fin 3 → ℕ} (h : off = ![p, 0, 0]) (inb) :
    (Rect.unit (s := (⟨3, ![K, R, n]⟩ : Shape)) off ![1, R, n] inb).set = slot K R n p := by
  subst h; ext i; rw [Rect.mem_set_unit, mem_slot, Fin.forall_fin_succ, Fin.forall_fin_two]
  have h1 : (i 1 : ℕ) < R := (i 1).isLt
  have h2 : (i 2 : ℕ) < n := (i 2).isLt
  simp only [Matrix.cons_val_zero, Matrix.cons_val_one, Matrix.cons_val_succ, Fin.succ_zero_eq_one, Fin.succ_one_eq_two, Matrix.cons_val]
  omega

theorem rows_disjoint {R n a b : ℕ} (h : a ≠ b) : Disjoint (rows R n a) (rows R n b) :=
  Finset.disjoint_left.2 fun i hi hj => by rw [mem_rows] at hi hj; omega

theorem slot_disjoint {K R n a b : ℕ} (h : a ≠ b) : Disjoint (slot K R n a) (slot K R n b) :=
  Finset.disjoint_left.2 fun i hi hj => by rw [mem_slot] at hi hj; omega

/-! ## Contents -/

/-- Device `c`'s rows of `x`, and its whole copy of `w`, as launched. -/
abbrev X (c : Dev nD) : S1024x4096.Idx → Elt F .f32 := m ((c : Thread nD τ).loc main_arg0)
abbrev Wm (c : Dev nD) : S4096x8192.Idx → Elt F .f32 := m ((c : Thread nD τ).loc main_arg1)

/-- Block `a`'s rows of `x` (device `a / 4`'s quarter `a % 4`), as its stage reads. -/
def xt (a : ℕ) : Vec F S1x256x4096 .f32 := fun j =>
  X m ⟨a / 4 % 4, Nat.mod_lt _ (by decide)⟩ (ix2 (⟨256 * (a % 4) + (j 1 : ℕ), by have := (j 1).isLt; have : (j 1 : ℕ) < 256 := this; omega⟩ : Fin 1024) (j 2 : Fin 4096))

/-- Chunk `n` of device `c`'s columns of `w`, as its stage reads. -/
def wt (c : Dev nD) (n : ℕ) : Vec F S1x512x2048 .f32 := fun j =>
  Wm m c (ix2 (⟨(512 * n + (j 1 : ℕ)) % 4096, Nat.mod_lt _ (by decide)⟩ : Fin 4096)
    (⟨2048 * c.val + (j 2 : ℕ), by have := c.isLt; have h : (j 2 : ℕ) < 2048 := (j 2).isLt; have hc : c.val < 4 := c.isLt; omega⟩ : Fin 8192))

/-- The gathered rows in eight bits, the same on every device. -/
def XG : S4096x4096.Idx → Elt F .fp8e4m3 := fun i =>
  k0_pay2 (xt m ((i 0 : ℕ) / 256)) (ix2 (⟨(i 0 : ℕ) % 256, Nat.mod_lt _ (by decide)⟩ : Fin 256) (i 1 : Fin 4096))

/-- Block `a` of them as a load reads it. -/
def xrows (a : ℕ) : Vec F S256x4096 .fp8e4m3 := fun j =>
  XG m (ix2 (⟨(256 * a + (j 0 : ℕ)) % 4096, Nat.mod_lt _ (by decide)⟩ : Fin 4096) (j 1 : Fin 4096))

/-- Device `c`'s columns of `w` in eight bits. -/
def W8 (c : Dev nD) : S4096x2048.Idx → Elt F .fp8e4m3 := fun i =>
  k0_pay7 (wt m c ((i 0 : ℕ) / 512)) (ix2 (⟨(i 0 : ℕ) % 512, Nat.mod_lt _ (by decide)⟩ : Fin 512) (i 1 : Fin 2048))

/-- The product of the two scales. -/
def sc (c : Dev nD) : F .f32 :=
  k0_pay1 (m ((c : Thread nD τ).loc main_arg2) (ix1 (0 : Fin 1))) (m ((c : Thread nD τ).loc main_arg3) (ix1 (0 : Fin 1)))

/-- Block `a` of device `c`'s result, as the body computes it. -/
def ot (c : Dev nD) (a : ℕ) : Vec F S1x256x2048 .f32 := k0_pay17 (sc m c) (xrows m a) (W8 m c)

/-- Device `c`'s result. -/
def OUT (c : Dev nD) : S4096x2048.Idx → Elt F .f32 := fun i =>
  ot m c ((i 0 : ℕ) / 256) (ix3 (0 : Fin 1) (⟨(i 0 : ℕ) % 256, Nat.mod_lt _ (by decide)⟩ : Fin 256) (i 1 : Fin 2048))

/-- What the three staging buffers hold: of `x`, at slot `q` quarter `q`; of `w`, chunk `n`; of the result, block `a`. -/
def XS (c : Dev nD) : S4x256x4096.Idx → Elt F .f32 := fun i =>
  xt m (4 * c.val + (i 0 : ℕ)) (ix3 (0 : Fin 1) (i 1 : Fin 256) (i 2 : Fin 4096))
def WS (c : Dev nD) (n : ℕ) : S2x512x2048.Idx → Elt F .f32 := fun i => wt m c n (ix3 (0 : Fin 1) (i 1 : Fin 512) (i 2 : Fin 2048))
def OS (c : Dev nD) (a : ℕ) : S2x256x2048.Idx → Elt F .f32 := fun i => ot m c a (ix3 (0 : Fin 1) (i 1 : Fin 256) (i 2 : Fin 2048))

/-! ## A slot of a staging buffer, squeezed: where its elements are -/

/-- A coordinate of an element of a squeezed rectangle of a whole buffer. -/
theorem emb_squeezed_val {sig : RefSig} {κ : Kind} (b : Ref sig κ) (off size : Fin b.ty.shape.rank → ℕ) (inb) (s' : Shape)
    (h : s'.numel = (Rect.unit off size inb).shape.numel) (j : s'.Idx) (a : Fin b.ty.shape.rank) :
    (((((View.whole b).slice (Rect.unit off size inb)).reshape s' h).emb j a : Fin _) : ℕ) = off a + (Shape.reshapeEquiv h j a : ℕ) :=
  ValueKit.view_emb_slice_whole_unit_val b off size inb _ a

/-- Element `(r, k)` of slot `p`, squeezed, is `(p, r, k)` of the buffer. -/
theorem emb_xs (p : Fin 4) (inb) (hs) (hq) (j : S256x4096.Idx) :
    (((xsM.slice (Rect.unit (s := S4x256x4096) ![(p : ℕ), 0, 0] S1x256x4096.size inb) hs).squeeze S256x4096 hq).view.emb j : S4x256x4096.Idx)
      = ix3 (p : Fin 4) (j 0 : Fin 256) (j 1 : Fin 4096) := by
  have e : ∀ h, Shape.reshapeEquiv h j = _ := fun h => Shape.reshapeEquiv_cons_one (n := 2) (d := ![256, 4096]) h j
  funext a
  match a with
  | ⟨0, _⟩ => exact Fin.ext ((emb_squeezed_val cc0_scratch3 _ _ inb _ _ j 0).trans (congrArg (fun z => (p : ℕ) + z) (congrArg Fin.val (congrFun (e _) 0))))
  | ⟨1, _⟩ => exact Fin.ext ((emb_squeezed_val cc0_scratch3 _ _ inb _ _ j 1).trans ((Nat.zero_add _).trans (congrArg Fin.val (congrFun (e _) 1))))
  | ⟨2, _⟩ => exact Fin.ext ((emb_squeezed_val cc0_scratch3 _ _ inb _ _ j 2).trans ((Nat.zero_add _).trans (congrArg Fin.val (congrFun (e _) 2))))

/-- What the whole slot, squeezed, covers. -/
theorem set_xs (p : ℕ) (inb) (hs) (hq) :
    ((xsM.slice (Rect.unit (s := S4x256x4096) ![p, 0, 0] S1x256x4096.size inb) hs).squeeze S256x4096 hq).view.set = slot 4 256 4096 p :=
  (View.set_reshape _ _).trans ((View.set_slice_whole cc0_scratch3 _).trans (rect_slot rfl inb))

/-- Writing slot `p`, squeezed. -/
theorem write_xs (p : Fin 4) (inb) (hs) (hq) (f : S4x256x4096.Idx → Elt F .f32) (w : S256x4096.Idx → Elt F .f32) (i : S4x256x4096.Idx) (hi : i ∈ slot 4 256 4096 p) :
    ((xsM.slice (Rect.unit (s := S4x256x4096) ![(p : ℕ), 0, 0] S1x256x4096.size inb) hs).squeeze S256x4096 hq).view.write (Elt F) f w Finset.univ i
      = w (ix2 (i 1 : Fin 256) (i 2 : Fin 4096)) := by
  have hi : i = ix3 (p : Fin 4) (i 1 : Fin 256) (i 2 : Fin 4096) := by
    rw [mem_slot] at hi
    funext a
    match a with
    | ⟨0, _⟩ => exact Fin.ext hi
    | ⟨1, _⟩ => rfl
    | ⟨2, _⟩ => rfl
  have he := emb_xs p inb hs hq (ix2 (i 1 : Fin 256) (i 2 : Fin 4096))
  have hw := View.write_emb_of_mem (Val := Elt F) (v := ((xsM.slice (Rect.unit (s := S4x256x4096) ![(p : ℕ), 0, 0] S1x256x4096.size inb) hs).squeeze S256x4096 hq).view)
    f w (Finset.mem_univ (ix2 (i 1 : Fin 256) (i 2 : Fin 4096)))
  exact (congrArg _ (hi.trans he.symm)).trans hw

/-- Reading slot `p`, squeezed. -/
theorem read_xs (p : Fin 4) (inb) (hs) (hq) (f : S4x256x4096.Idx → Elt F .f32) (j : S256x4096.Idx) :
    ((xsM.slice (Rect.unit (s := S4x256x4096) ![(p : ℕ), 0, 0] S1x256x4096.size inb) hs).squeeze S256x4096 hq).view.read (Elt F) f j
      = f (ix3 (p : Fin 4) (j 0 : Fin 256) (j 1 : Fin 4096)) :=
  congrArg f (emb_xs p inb hs hq j)

/-- Loading slot `p`. -/
theorem load_xs (p : Fin 4) (inb) (f : S4x256x4096.Idx → Elt F .f32) (j : S1x256x4096.Idx) :
    (xsM.view.readAt (Elt F) (Rect.unit (s := S4x256x4096) ![(p : ℕ), 0, 0] S1x256x4096.size inb).toLoadRect f : S1x256x4096.Idx → Elt F .f32) j
      = f (ix3 (p : Fin 4) (j 1 : Fin 256) (j 2 : Fin 4096)) := by
  refine congrArg f ?_
  have h0 : (j 0 : ℕ) < 1 := (j 0).isLt
  funext a
  match a with
  | ⟨0, _⟩ => exact Fin.ext ((ValueKit.view_emb_slice_whole_unit_val cc0_scratch3 _ _ inb j 0).trans (by show (p : ℕ) + (j 0 : ℕ) = p; omega))
  | ⟨1, _⟩ => exact Fin.ext ((ValueKit.view_emb_slice_whole_unit_val cc0_scratch3 _ _ inb j 1).trans (Nat.zero_add _))
  | ⟨2, _⟩ => exact Fin.ext ((ValueKit.view_emb_slice_whole_unit_val cc0_scratch3 _ _ inb j 2).trans (Nat.zero_add _))

/-- Storing slot `p`. -/
theorem store_xs (p : Fin 4) (inb) (f : S4x256x4096.Idx → Elt F .f32) (w : S1x256x4096.Idx → Elt F .f32) (i : S4x256x4096.Idx) (hi : i ∈ slot 4 256 4096 p) :
    (xsM.access (Rect.unit (s := S4x256x4096) ![(p : ℕ), 0, 0] S1x256x4096.size inb)).write (Elt F) f w Finset.univ i
      = w (ix3 (0 : Fin 1) (i 1 : Fin 256) (i 2 : Fin 4096)) := by
  have he : i = (xsM.access (Rect.unit (s := S4x256x4096) ![(p : ℕ), 0, 0] S1x256x4096.size inb)).emb (ix3 (0 : Fin 1) (i 1 : Fin 256) (i 2 : Fin 4096)) := by
    rw [mem_slot] at hi
    funext a
    match a with
    | ⟨0, _⟩ => exact Fin.ext (hi.trans (ValueKit.view_emb_slice_whole_unit_val cc0_scratch3 _ _ inb (ix3 (0 : Fin 1) (i 1 : Fin 256) (i 2 : Fin 4096)) 0).symm)
    | ⟨1, _⟩ => exact Fin.ext ((Nat.zero_add _).symm.trans (ValueKit.view_emb_slice_whole_unit_val cc0_scratch3 _ _ inb (ix3 (0 : Fin 1) (i 1 : Fin 256) (i 2 : Fin 4096)) 1).symm)
    | ⟨2, _⟩ => exact Fin.ext ((Nat.zero_add _).symm.trans (ValueKit.view_emb_slice_whole_unit_val cc0_scratch3 _ _ inb (ix3 (0 : Fin 1) (i 1 : Fin 256) (i 2 : Fin 4096)) 2).symm)
  have hw := View.write_emb_of_mem (Val := Elt F) (v := xsM.access (Rect.unit (s := S4x256x4096) ![(p : ℕ), 0, 0] S1x256x4096.size inb))
    f w (Finset.mem_univ (ix3 (0 : Fin 1) (i 1 : Fin 256) (i 2 : Fin 4096)))
  exact (congrArg _ he).trans hw

/-- Element `(r, k)` of slot `p`, squeezed, is `(p, r, k)` of the buffer. -/
theorem emb_ws (p : Fin 2) (inb) (hs) (hq) (j : S512x2048.Idx) :
    (((wsM.slice (Rect.unit (s := S2x512x2048) ![(p : ℕ), 0, 0] S1x512x2048.size inb) hs).squeeze S512x2048 hq).view.emb j : S2x512x2048.Idx)
      = ix3 (p : Fin 2) (j 0 : Fin 512) (j 1 : Fin 2048) := by
  have e : ∀ h, Shape.reshapeEquiv h j = _ := fun h => Shape.reshapeEquiv_cons_one (n := 2) (d := ![512, 2048]) h j
  funext a
  match a with
  | ⟨0, _⟩ => exact Fin.ext ((emb_squeezed_val cc0_scratch2 _ _ inb _ _ j 0).trans (congrArg (fun z => (p : ℕ) + z) (congrArg Fin.val (congrFun (e _) 0))))
  | ⟨1, _⟩ => exact Fin.ext ((emb_squeezed_val cc0_scratch2 _ _ inb _ _ j 1).trans ((Nat.zero_add _).trans (congrArg Fin.val (congrFun (e _) 1))))
  | ⟨2, _⟩ => exact Fin.ext ((emb_squeezed_val cc0_scratch2 _ _ inb _ _ j 2).trans ((Nat.zero_add _).trans (congrArg Fin.val (congrFun (e _) 2))))

/-- What the whole slot, squeezed, covers. -/
theorem set_ws (p : ℕ) (inb) (hs) (hq) :
    ((wsM.slice (Rect.unit (s := S2x512x2048) ![p, 0, 0] S1x512x2048.size inb) hs).squeeze S512x2048 hq).view.set = slot 2 512 2048 p :=
  (View.set_reshape _ _).trans ((View.set_slice_whole cc0_scratch2 _).trans (rect_slot rfl inb))

/-- Writing slot `p`, squeezed. -/
theorem write_ws (p : Fin 2) (inb) (hs) (hq) (f : S2x512x2048.Idx → Elt F .f32) (w : S512x2048.Idx → Elt F .f32) (i : S2x512x2048.Idx) (hi : i ∈ slot 2 512 2048 p) :
    ((wsM.slice (Rect.unit (s := S2x512x2048) ![(p : ℕ), 0, 0] S1x512x2048.size inb) hs).squeeze S512x2048 hq).view.write (Elt F) f w Finset.univ i
      = w (ix2 (i 1 : Fin 512) (i 2 : Fin 2048)) := by
  have hi : i = ix3 (p : Fin 2) (i 1 : Fin 512) (i 2 : Fin 2048) := by
    rw [mem_slot] at hi
    funext a
    match a with
    | ⟨0, _⟩ => exact Fin.ext hi
    | ⟨1, _⟩ => rfl
    | ⟨2, _⟩ => rfl
  have he := emb_ws p inb hs hq (ix2 (i 1 : Fin 512) (i 2 : Fin 2048))
  have hw := View.write_emb_of_mem (Val := Elt F) (v := ((wsM.slice (Rect.unit (s := S2x512x2048) ![(p : ℕ), 0, 0] S1x512x2048.size inb) hs).squeeze S512x2048 hq).view)
    f w (Finset.mem_univ (ix2 (i 1 : Fin 512) (i 2 : Fin 2048)))
  exact (congrArg _ (hi.trans he.symm)).trans hw

/-- Reading slot `p`, squeezed. -/
theorem read_ws (p : Fin 2) (inb) (hs) (hq) (f : S2x512x2048.Idx → Elt F .f32) (j : S512x2048.Idx) :
    ((wsM.slice (Rect.unit (s := S2x512x2048) ![(p : ℕ), 0, 0] S1x512x2048.size inb) hs).squeeze S512x2048 hq).view.read (Elt F) f j
      = f (ix3 (p : Fin 2) (j 0 : Fin 512) (j 1 : Fin 2048)) :=
  congrArg f (emb_ws p inb hs hq j)

/-- Loading slot `p`. -/
theorem load_ws (p : Fin 2) (inb) (f : S2x512x2048.Idx → Elt F .f32) (j : S1x512x2048.Idx) :
    (wsM.view.readAt (Elt F) (Rect.unit (s := S2x512x2048) ![(p : ℕ), 0, 0] S1x512x2048.size inb).toLoadRect f : S1x512x2048.Idx → Elt F .f32) j
      = f (ix3 (p : Fin 2) (j 1 : Fin 512) (j 2 : Fin 2048)) := by
  refine congrArg f ?_
  have h0 : (j 0 : ℕ) < 1 := (j 0).isLt
  funext a
  match a with
  | ⟨0, _⟩ => exact Fin.ext ((ValueKit.view_emb_slice_whole_unit_val cc0_scratch2 _ _ inb j 0).trans (by show (p : ℕ) + (j 0 : ℕ) = p; omega))
  | ⟨1, _⟩ => exact Fin.ext ((ValueKit.view_emb_slice_whole_unit_val cc0_scratch2 _ _ inb j 1).trans (Nat.zero_add _))
  | ⟨2, _⟩ => exact Fin.ext ((ValueKit.view_emb_slice_whole_unit_val cc0_scratch2 _ _ inb j 2).trans (Nat.zero_add _))

/-- Storing slot `p`. -/
theorem store_ws (p : Fin 2) (inb) (f : S2x512x2048.Idx → Elt F .f32) (w : S1x512x2048.Idx → Elt F .f32) (i : S2x512x2048.Idx) (hi : i ∈ slot 2 512 2048 p) :
    (wsM.access (Rect.unit (s := S2x512x2048) ![(p : ℕ), 0, 0] S1x512x2048.size inb)).write (Elt F) f w Finset.univ i
      = w (ix3 (0 : Fin 1) (i 1 : Fin 512) (i 2 : Fin 2048)) := by
  have he : i = (wsM.access (Rect.unit (s := S2x512x2048) ![(p : ℕ), 0, 0] S1x512x2048.size inb)).emb (ix3 (0 : Fin 1) (i 1 : Fin 512) (i 2 : Fin 2048)) := by
    rw [mem_slot] at hi
    funext a
    match a with
    | ⟨0, _⟩ => exact Fin.ext (hi.trans (ValueKit.view_emb_slice_whole_unit_val cc0_scratch2 _ _ inb (ix3 (0 : Fin 1) (i 1 : Fin 512) (i 2 : Fin 2048)) 0).symm)
    | ⟨1, _⟩ => exact Fin.ext ((Nat.zero_add _).symm.trans (ValueKit.view_emb_slice_whole_unit_val cc0_scratch2 _ _ inb (ix3 (0 : Fin 1) (i 1 : Fin 512) (i 2 : Fin 2048)) 1).symm)
    | ⟨2, _⟩ => exact Fin.ext ((Nat.zero_add _).symm.trans (ValueKit.view_emb_slice_whole_unit_val cc0_scratch2 _ _ inb (ix3 (0 : Fin 1) (i 1 : Fin 512) (i 2 : Fin 2048)) 2).symm)
  have hw := View.write_emb_of_mem (Val := Elt F) (v := wsM.access (Rect.unit (s := S2x512x2048) ![(p : ℕ), 0, 0] S1x512x2048.size inb))
    f w (Finset.mem_univ (ix3 (0 : Fin 1) (i 1 : Fin 512) (i 2 : Fin 2048)))
  exact (congrArg _ he).trans hw

/-- Element `(r, k)` of slot `p`, squeezed, is `(p, r, k)` of the buffer. -/
theorem emb_st (p : Fin 2) (inb) (hs) (hq) (j : S256x2048.Idx) :
    (((stM.slice (Rect.unit (s := S2x256x2048) ![(p : ℕ), 0, 0] S1x256x2048.size inb) hs).squeeze S256x2048 hq).view.emb j : S2x256x2048.Idx)
      = ix3 (p : Fin 2) (j 0 : Fin 256) (j 1 : Fin 2048) := by
  have e : ∀ h, Shape.reshapeEquiv h j = _ := fun h => Shape.reshapeEquiv_cons_one (n := 2) (d := ![256, 2048]) h j
  funext a
  match a with
  | ⟨0, _⟩ => exact Fin.ext ((emb_squeezed_val cc0_scratch4 _ _ inb _ _ j 0).trans (congrArg (fun z => (p : ℕ) + z) (congrArg Fin.val (congrFun (e _) 0))))
  | ⟨1, _⟩ => exact Fin.ext ((emb_squeezed_val cc0_scratch4 _ _ inb _ _ j 1).trans ((Nat.zero_add _).trans (congrArg Fin.val (congrFun (e _) 1))))
  | ⟨2, _⟩ => exact Fin.ext ((emb_squeezed_val cc0_scratch4 _ _ inb _ _ j 2).trans ((Nat.zero_add _).trans (congrArg Fin.val (congrFun (e _) 2))))

/-- What the whole slot, squeezed, covers. -/
theorem set_st (p : ℕ) (inb) (hs) (hq) :
    ((stM.slice (Rect.unit (s := S2x256x2048) ![p, 0, 0] S1x256x2048.size inb) hs).squeeze S256x2048 hq).view.set = slot 2 256 2048 p :=
  (View.set_reshape _ _).trans ((View.set_slice_whole cc0_scratch4 _).trans (rect_slot rfl inb))

/-- Writing slot `p`, squeezed. -/
theorem write_st (p : Fin 2) (inb) (hs) (hq) (f : S2x256x2048.Idx → Elt F .f32) (w : S256x2048.Idx → Elt F .f32) (i : S2x256x2048.Idx) (hi : i ∈ slot 2 256 2048 p) :
    ((stM.slice (Rect.unit (s := S2x256x2048) ![(p : ℕ), 0, 0] S1x256x2048.size inb) hs).squeeze S256x2048 hq).view.write (Elt F) f w Finset.univ i
      = w (ix2 (i 1 : Fin 256) (i 2 : Fin 2048)) := by
  have hi : i = ix3 (p : Fin 2) (i 1 : Fin 256) (i 2 : Fin 2048) := by
    rw [mem_slot] at hi
    funext a
    match a with
    | ⟨0, _⟩ => exact Fin.ext hi
    | ⟨1, _⟩ => rfl
    | ⟨2, _⟩ => rfl
  have he := emb_st p inb hs hq (ix2 (i 1 : Fin 256) (i 2 : Fin 2048))
  have hw := View.write_emb_of_mem (Val := Elt F) (v := ((stM.slice (Rect.unit (s := S2x256x2048) ![(p : ℕ), 0, 0] S1x256x2048.size inb) hs).squeeze S256x2048 hq).view)
    f w (Finset.mem_univ (ix2 (i 1 : Fin 256) (i 2 : Fin 2048)))
  exact (congrArg _ (hi.trans he.symm)).trans hw

/-- Reading slot `p`, squeezed. -/
theorem read_st (p : Fin 2) (inb) (hs) (hq) (f : S2x256x2048.Idx → Elt F .f32) (j : S256x2048.Idx) :
    ((stM.slice (Rect.unit (s := S2x256x2048) ![(p : ℕ), 0, 0] S1x256x2048.size inb) hs).squeeze S256x2048 hq).view.read (Elt F) f j
      = f (ix3 (p : Fin 2) (j 0 : Fin 256) (j 1 : Fin 2048)) :=
  congrArg f (emb_st p inb hs hq j)

/-- Loading slot `p`. -/
theorem load_st (p : Fin 2) (inb) (f : S2x256x2048.Idx → Elt F .f32) (j : S1x256x2048.Idx) :
    (stM.view.readAt (Elt F) (Rect.unit (s := S2x256x2048) ![(p : ℕ), 0, 0] S1x256x2048.size inb).toLoadRect f : S1x256x2048.Idx → Elt F .f32) j
      = f (ix3 (p : Fin 2) (j 1 : Fin 256) (j 2 : Fin 2048)) := by
  refine congrArg f ?_
  have h0 : (j 0 : ℕ) < 1 := (j 0).isLt
  funext a
  match a with
  | ⟨0, _⟩ => exact Fin.ext ((ValueKit.view_emb_slice_whole_unit_val cc0_scratch4 _ _ inb j 0).trans (by show (p : ℕ) + (j 0 : ℕ) = p; omega))
  | ⟨1, _⟩ => exact Fin.ext ((ValueKit.view_emb_slice_whole_unit_val cc0_scratch4 _ _ inb j 1).trans (Nat.zero_add _))
  | ⟨2, _⟩ => exact Fin.ext ((ValueKit.view_emb_slice_whole_unit_val cc0_scratch4 _ _ inb j 2).trans (Nat.zero_add _))

/-- Storing slot `p`. -/
theorem store_st (p : Fin 2) (inb) (f : S2x256x2048.Idx → Elt F .f32) (w : S1x256x2048.Idx → Elt F .f32) (i : S2x256x2048.Idx) (hi : i ∈ slot 2 256 2048 p) :
    (stM.access (Rect.unit (s := S2x256x2048) ![(p : ℕ), 0, 0] S1x256x2048.size inb)).write (Elt F) f w Finset.univ i
      = w (ix3 (0 : Fin 1) (i 1 : Fin 256) (i 2 : Fin 2048)) := by
  have he : i = (stM.access (Rect.unit (s := S2x256x2048) ![(p : ℕ), 0, 0] S1x256x2048.size inb)).emb (ix3 (0 : Fin 1) (i 1 : Fin 256) (i 2 : Fin 2048)) := by
    rw [mem_slot] at hi
    funext a
    match a with
    | ⟨0, _⟩ => exact Fin.ext (hi.trans (ValueKit.view_emb_slice_whole_unit_val cc0_scratch4 _ _ inb (ix3 (0 : Fin 1) (i 1 : Fin 256) (i 2 : Fin 2048)) 0).symm)
    | ⟨1, _⟩ => exact Fin.ext ((Nat.zero_add _).symm.trans (ValueKit.view_emb_slice_whole_unit_val cc0_scratch4 _ _ inb (ix3 (0 : Fin 1) (i 1 : Fin 256) (i 2 : Fin 2048)) 1).symm)
    | ⟨2, _⟩ => exact Fin.ext ((Nat.zero_add _).symm.trans (ValueKit.view_emb_slice_whole_unit_val cc0_scratch4 _ _ inb (ix3 (0 : Fin 1) (i 1 : Fin 256) (i 2 : Fin 2048)) 2).symm)
  have hw := View.write_emb_of_mem (Val := Elt F) (v := stM.access (Rect.unit (s := S2x256x2048) ![(p : ℕ), 0, 0] S1x256x2048.size inb))
    f w (Finset.mem_univ (ix3 (0 : Fin 1) (i 1 : Fin 256) (i 2 : Fin 2048)))
  exact (congrArg _ he).trans hw

/-! ## Rectangles of the rank-two buffers -/

/-- Element `(r, k)` of a rectangle of `xM` is `(off 0 + r, off 1 + k)` of the buffer. -/
theorem emb_x {a a' : ℕ} {off : Fin 2 → ℕ} (hoff : off = ![a, a']) (inb) (j : S256x4096.Idx) (i : S1024x4096.Idx)
    (h0 : (i 0 : ℕ) = a + (j 0 : ℕ)) (h1 : (i 1 : ℕ) = a' + (j 1 : ℕ)) :
    ((xM.view.slice (Rect.unit (s := S1024x4096) off S256x4096.size inb)).emb j : S1024x4096.Idx) = i := by
  subst hoff
  funext a
  match a with
  | ⟨0, _⟩ => exact Fin.ext ((ValueKit.view_emb_slice_whole_unit_val main_arg0 _ _ inb j 0).trans h0.symm)
  | ⟨1, _⟩ => exact Fin.ext ((ValueKit.view_emb_slice_whole_unit_val main_arg0 _ _ inb j 1).trans h1.symm)

/-- Reading it. -/
theorem read_x {a a' : ℕ} {off : Fin 2 → ℕ} (hoff : off = ![a, a']) (inb) (f : S1024x4096.Idx → Elt F .f32) (j : S256x4096.Idx) (i : S1024x4096.Idx)
    (h0 : (i 0 : ℕ) = a + (j 0 : ℕ)) (h1 : (i 1 : ℕ) = a' + (j 1 : ℕ)) :
    (xM.view.slice (Rect.unit (s := S1024x4096) off S256x4096.size inb)).read (Elt F) f j = f i :=
  congrArg f (emb_x hoff inb j i h0 h1)

/-- Writing it. -/
theorem write_x {a a' : ℕ} {off : Fin 2 → ℕ} (hoff : off = ![a, a']) (inb) (f : S1024x4096.Idx → Elt F .f32) (w : S256x4096.Idx → Elt F .f32) (j : S256x4096.Idx) (i : S1024x4096.Idx)
    (h0 : (i 0 : ℕ) = a + (j 0 : ℕ)) (h1 : (i 1 : ℕ) = a' + (j 1 : ℕ)) :
    (xM.view.slice (Rect.unit (s := S1024x4096) off S256x4096.size inb)).write (Elt F) f w Finset.univ i = w j := by
  have hw := View.write_emb_of_mem (Val := Elt F) (v := xM.view.slice (Rect.unit (s := S1024x4096) off S256x4096.size inb)) f w (Finset.mem_univ j)
  exact (congrArg _ (emb_x hoff inb j i h0 h1).symm).trans hw

/-- Element `(r, k)` of a rectangle of `wM` is `(off 0 + r, off 1 + k)` of the buffer. -/
theorem emb_w {a a' : ℕ} {off : Fin 2 → ℕ} (hoff : off = ![a, a']) (inb) (j : S512x2048.Idx) (i : S4096x8192.Idx)
    (h0 : (i 0 : ℕ) = a + (j 0 : ℕ)) (h1 : (i 1 : ℕ) = a' + (j 1 : ℕ)) :
    ((wM.view.slice (Rect.unit (s := S4096x8192) off S512x2048.size inb)).emb j : S4096x8192.Idx) = i := by
  subst hoff
  funext a
  match a with
  | ⟨0, _⟩ => exact Fin.ext ((ValueKit.view_emb_slice_whole_unit_val main_arg1 _ _ inb j 0).trans h0.symm)
  | ⟨1, _⟩ => exact Fin.ext ((ValueKit.view_emb_slice_whole_unit_val main_arg1 _ _ inb j 1).trans h1.symm)

/-- Reading it. -/
theorem read_w {a a' : ℕ} {off : Fin 2 → ℕ} (hoff : off = ![a, a']) (inb) (f : S4096x8192.Idx → Elt F .f32) (j : S512x2048.Idx) (i : S4096x8192.Idx)
    (h0 : (i 0 : ℕ) = a + (j 0 : ℕ)) (h1 : (i 1 : ℕ) = a' + (j 1 : ℕ)) :
    (wM.view.slice (Rect.unit (s := S4096x8192) off S512x2048.size inb)).read (Elt F) f j = f i :=
  congrArg f (emb_w hoff inb j i h0 h1)

/-- Writing it. -/
theorem write_w {a a' : ℕ} {off : Fin 2 → ℕ} (hoff : off = ![a, a']) (inb) (f : S4096x8192.Idx → Elt F .f32) (w : S512x2048.Idx → Elt F .f32) (j : S512x2048.Idx) (i : S4096x8192.Idx)
    (h0 : (i 0 : ℕ) = a + (j 0 : ℕ)) (h1 : (i 1 : ℕ) = a' + (j 1 : ℕ)) :
    (wM.view.slice (Rect.unit (s := S4096x8192) off S512x2048.size inb)).write (Elt F) f w Finset.univ i = w j := by
  have hw := View.write_emb_of_mem (Val := Elt F) (v := wM.view.slice (Rect.unit (s := S4096x8192) off S512x2048.size inb)) f w (Finset.mem_univ j)
  exact (congrArg _ (emb_w hoff inb j i h0 h1).symm).trans hw

/-- Element `(r, k)` of a rectangle of `oM` is `(off 0 + r, off 1 + k)` of the buffer. -/
theorem emb_o {a a' : ℕ} {off : Fin 2 → ℕ} (hoff : off = ![a, a']) (inb) (j : S256x2048.Idx) (i : S4096x2048.Idx)
    (h0 : (i 0 : ℕ) = a + (j 0 : ℕ)) (h1 : (i 1 : ℕ) = a' + (j 1 : ℕ)) :
    ((oM.view.slice (Rect.unit (s := S4096x2048) off S256x2048.size inb)).emb j : S4096x2048.Idx) = i := by
  subst hoff
  funext a
  match a with
  | ⟨0, _⟩ => exact Fin.ext ((ValueKit.view_emb_slice_whole_unit_val main_v1 _ _ inb j 0).trans h0.symm)
  | ⟨1, _⟩ => exact Fin.ext ((ValueKit.view_emb_slice_whole_unit_val main_v1 _ _ inb j 1).trans h1.symm)

/-- Reading it. -/
theorem read_o {a a' : ℕ} {off : Fin 2 → ℕ} (hoff : off = ![a, a']) (inb) (f : S4096x2048.Idx → Elt F .f32) (j : S256x2048.Idx) (i : S4096x2048.Idx)
    (h0 : (i 0 : ℕ) = a + (j 0 : ℕ)) (h1 : (i 1 : ℕ) = a' + (j 1 : ℕ)) :
    (oM.view.slice (Rect.unit (s := S4096x2048) off S256x2048.size inb)).read (Elt F) f j = f i :=
  congrArg f (emb_o hoff inb j i h0 h1)

/-- Writing it. -/
theorem write_o {a a' : ℕ} {off : Fin 2 → ℕ} (hoff : off = ![a, a']) (inb) (f : S4096x2048.Idx → Elt F .f32) (w : S256x2048.Idx → Elt F .f32) (j : S256x2048.Idx) (i : S4096x2048.Idx)
    (h0 : (i 0 : ℕ) = a + (j 0 : ℕ)) (h1 : (i 1 : ℕ) = a' + (j 1 : ℕ)) :
    (oM.view.slice (Rect.unit (s := S4096x2048) off S256x2048.size inb)).write (Elt F) f w Finset.univ i = w j := by
  have hw := View.write_emb_of_mem (Val := Elt F) (v := oM.view.slice (Rect.unit (s := S4096x2048) off S256x2048.size inb)) f w (Finset.mem_univ j)
  exact (congrArg _ (emb_o hoff inb j i h0 h1).symm).trans hw

/-- Element `(r, k)` of a rectangle of `gM` is `(off 0 + r, off 1 + k)` of the buffer. -/
theorem emb_g {a a' : ℕ} {off : Fin 2 → ℕ} (hoff : off = ![a, a']) (inb) (j : S256x4096.Idx) (i : S4096x4096.Idx)
    (h0 : (i 0 : ℕ) = a + (j 0 : ℕ)) (h1 : (i 1 : ℕ) = a' + (j 1 : ℕ)) :
    ((gM.view.slice (Rect.unit (s := S4096x4096) off S256x4096.size inb)).emb j : S4096x4096.Idx) = i := by
  subst hoff
  funext a
  match a with
  | ⟨0, _⟩ => exact Fin.ext ((ValueKit.view_emb_slice_whole_unit_val cc0_scratch0 _ _ inb j 0).trans h0.symm)
  | ⟨1, _⟩ => exact Fin.ext ((ValueKit.view_emb_slice_whole_unit_val cc0_scratch0 _ _ inb j 1).trans h1.symm)

/-- Reading it. -/
theorem read_g {a a' : ℕ} {off : Fin 2 → ℕ} (hoff : off = ![a, a']) (inb) (f : S4096x4096.Idx → Elt F .fp8e4m3) (j : S256x4096.Idx) (i : S4096x4096.Idx)
    (h0 : (i 0 : ℕ) = a + (j 0 : ℕ)) (h1 : (i 1 : ℕ) = a' + (j 1 : ℕ)) :
    (gM.view.slice (Rect.unit (s := S4096x4096) off S256x4096.size inb)).read (Elt F) f j = f i :=
  congrArg f (emb_g hoff inb j i h0 h1)

/-- Writing it. -/
theorem write_g {a a' : ℕ} {off : Fin 2 → ℕ} (hoff : off = ![a, a']) (inb) (f : S4096x4096.Idx → Elt F .fp8e4m3) (w : S256x4096.Idx → Elt F .fp8e4m3) (j : S256x4096.Idx) (i : S4096x4096.Idx)
    (h0 : (i 0 : ℕ) = a + (j 0 : ℕ)) (h1 : (i 1 : ℕ) = a' + (j 1 : ℕ)) :
    (gM.view.slice (Rect.unit (s := S4096x4096) off S256x4096.size inb)).write (Elt F) f w Finset.univ i = w j := by
  have hw := View.write_emb_of_mem (Val := Elt F) (v := gM.view.slice (Rect.unit (s := S4096x4096) off S256x4096.size inb)) f w (Finset.mem_univ j)
  exact (congrArg _ (emb_g hoff inb j i h0 h1).symm).trans hw

/-- Element `(r, k)` of a rectangle of `w8M` is `(off 0 + r, off 1 + k)` of the buffer. -/
theorem emb_w8 {a a' : ℕ} {off : Fin 2 → ℕ} (hoff : off = ![a, a']) (inb) (j : S512x2048.Idx) (i : S4096x2048.Idx)
    (h0 : (i 0 : ℕ) = a + (j 0 : ℕ)) (h1 : (i 1 : ℕ) = a' + (j 1 : ℕ)) :
    ((w8M.view.slice (Rect.unit (s := S4096x2048) off S512x2048.size inb)).emb j : S4096x2048.Idx) = i := by
  subst hoff
  funext a
  match a with
  | ⟨0, _⟩ => exact Fin.ext ((ValueKit.view_emb_slice_whole_unit_val cc0_scratch1 _ _ inb j 0).trans h0.symm)
  | ⟨1, _⟩ => exact Fin.ext ((ValueKit.view_emb_slice_whole_unit_val cc0_scratch1 _ _ inb j 1).trans h1.symm)

/-- Reading it. -/
theorem read_w8 {a a' : ℕ} {off : Fin 2 → ℕ} (hoff : off = ![a, a']) (inb) (f : S4096x2048.Idx → Elt F .fp8e4m3) (j : S512x2048.Idx) (i : S4096x2048.Idx)
    (h0 : (i 0 : ℕ) = a + (j 0 : ℕ)) (h1 : (i 1 : ℕ) = a' + (j 1 : ℕ)) :
    (w8M.view.slice (Rect.unit (s := S4096x2048) off S512x2048.size inb)).read (Elt F) f j = f i :=
  congrArg f (emb_w8 hoff inb j i h0 h1)

/-- Writing it. -/
theorem write_w8 {a a' : ℕ} {off : Fin 2 → ℕ} (hoff : off = ![a, a']) (inb) (f : S4096x2048.Idx → Elt F .fp8e4m3) (w : S512x2048.Idx → Elt F .fp8e4m3) (j : S512x2048.Idx) (i : S4096x2048.Idx)
    (h0 : (i 0 : ℕ) = a + (j 0 : ℕ)) (h1 : (i 1 : ℕ) = a' + (j 1 : ℕ)) :
    (w8M.view.slice (Rect.unit (s := S4096x2048) off S512x2048.size inb)).write (Elt F) f w Finset.univ i = w j := by
  have hw := View.write_emb_of_mem (Val := Elt F) (v := w8M.view.slice (Rect.unit (s := S4096x2048) off S512x2048.size inb)) f w (Finset.mem_univ j)
  exact (congrArg _ (emb_w8 hoff inb j i h0 h1).symm).trans hw

/-! ## The sets these rectangles cover -/

theorem set_g {a : ℕ} {off : Fin 2 → ℕ} (hoff : off = ![256 * a, 0]) (inb) :
    (gM.view.slice (Rect.unit (s := S4096x4096) off S256x4096.size inb)).set = rows 4096 4096 a :=
  (View.set_slice_whole cc0_scratch0 _).trans (rect_rows hoff inb)
theorem set_o {a : ℕ} {off : Fin 2 → ℕ} (hoff : off = ![256 * a, 0]) (inb) :
    (oM.view.slice (Rect.unit (s := S4096x2048) off S256x2048.size inb)).set = rows 4096 2048 a :=
  (View.set_slice_whole main_v1 _).trans (rect_rows hoff inb)
theorem set_x {a : ℕ} {off : Fin 2 → ℕ} (hoff : off = ![256 * a, 0]) (inb) :
    (xM.view.slice (Rect.unit (s := S1024x4096) off S256x4096.size inb)).set = rows 1024 4096 a :=
  (View.set_slice_whole main_arg0 _).trans (rect_rows hoff inb)

/-- Chunk `n` of device `c`'s columns of `w`. -/
def wset (c n : ℕ) : Finset S4096x8192.Idx :=
  Finset.univ.filter fun i => (512 * n ≤ (i 0 : ℕ) ∧ (i 0 : ℕ) < 512 * n + 512) ∧ 2048 * c ≤ (i 1 : ℕ) ∧ (i 1 : ℕ) < 2048 * c + 2048
theorem mem_wset {c n : ℕ} {i : S4096x8192.Idx} :
    i ∈ wset c n ↔ (512 * n ≤ (i 0 : ℕ) ∧ (i 0 : ℕ) < 512 * n + 512) ∧ 2048 * c ≤ (i 1 : ℕ) ∧ (i 1 : ℕ) < 2048 * c + 2048 := by simp [wset]
theorem set_w {c n : ℕ} {off : Fin 2 → ℕ} (hoff : off = ![512 * n, 2048 * c]) (inb) :
    (wM.view.slice (Rect.unit (s := S4096x8192) off S512x2048.size inb)).set = wset c n := by
  refine (View.set_slice_whole main_arg1 _).trans ?_
  subst hoff; ext i; exact (Rect.mem_set_unit.trans Fin.forall_fin_two).trans mem_wset.symm
theorem wset_disjoint {c n k : ℕ} (h : n ≠ k) : Disjoint (wset c n) (wset c k) :=
  Finset.disjoint_left.2 fun i hi hj => by rw [mem_wset] at hi hj; omega

/-! ## What each step of the body leaves -/

/-- Quarter `q` copied into its slot. -/
theorem xs_copied (c : Dev nD) (q : Fin 4) (inb) (hs) (hq) {off} (hoff : off = ![256 * (q : ℕ), 0]) (inb') (f) :
    ∀ i ∈ slot 4 256 4096 q,
      ((xsM.slice (Rect.unit (s := S4x256x4096) ![(q : ℕ), 0, 0] S1x256x4096.size inb) hs).squeeze S256x4096 hq).view.write (Elt F) f
        ((xM.view.slice (Rect.unit (s := S1024x4096) off S256x4096.size inb')).read (Elt F) (X m c)) Finset.univ i = XS m c i := by
  intro i hi
  have hc : (c : ℕ) < 4 := c.isLt
  have h1 : (i 1 : ℕ) < 256 := (i 1).isLt
  have h0 := mem_slot.1 hi
  have hq4 := q.isLt
  have hr := read_x hoff inb' (X m c) (ix2 (i 1 : Fin 256) (i 2 : Fin 4096))
    (ix2 (⟨256 * (q : ℕ) + (i 1 : ℕ), by omega⟩ : Fin 1024) (i 2 : Fin 4096)) rfl (Nat.zero_add _).symm
  refine ((write_xs q inb hs hq f _ i hi).trans hr).trans ?_
  have e1 : (⟨(4 * c.val + (i 0 : ℕ)) / 4 % 4, Nat.mod_lt _ (by decide)⟩ : Dev nD) = c := by
    refine Fin.ext ?_
    show (4 * c.val + (i 0 : ℕ)) / 4 % 4 = c.val
    rw [h0]; omega
  have e2 : (⟨256 * ((4 * c.val + (i 0 : ℕ)) % 4) + (i 1 : ℕ), by omega⟩ : Fin 1024) = ⟨256 * (q : ℕ) + (i 1 : ℕ), by omega⟩ :=
    Fin.ext (by show 256 * ((4 * c.val + (i 0 : ℕ)) % 4) + (i 1 : ℕ) = 256 * (q : ℕ) + (i 1 : ℕ); rw [h0]; omega)
  show _ = X m (⟨(4 * c.val + (i 0 : ℕ)) / 4 % 4, _⟩ : Dev nD) (ix2 (⟨256 * ((4 * c.val + (i 0 : ℕ)) % 4) + (i 1 : ℕ), _⟩ : Fin 1024) (i 2 : Fin 4096))
  rw [e1, e2]

/-- The load of slot `q` after it. -/
theorem xs_loaded (c : Dev nD) (q : Fin 4) (inb) :
    (xsM.view.readAt (Elt F) (Rect.unit (s := S4x256x4096) ![(q : ℕ), 0, 0] S1x256x4096.size inb).toLoadRect (XS m c) : S1x256x4096.Idx → Elt F .f32)
      = xt m (4 * c.val + q) := by
  funext j
  refine (load_xs q inb (XS m c) j).trans ?_
  rfl

/-- The store of block `a`. -/
theorem g_stored {a : ℕ} {off} (hoff : off = ![256 * a, 0]) (inb) (f) :
    ∀ i ∈ rows 4096 4096 a,
      (gM.access (Rect.unit (s := S4096x4096) off S256x4096.size inb)).write (Elt F) f (k0_pay2 (xt m a)) Finset.univ i = XG m i := by
  intro i hi
  have h := mem_rows.1 hi
  refine (write_g hoff inb f _ (ix2 (⟨(i 0 : ℕ) % 256, Nat.mod_lt _ (by decide)⟩ : Fin 256) (i 1 : Fin 4096)) i ?_ (Nat.zero_add _).symm).trans ?_
  · show (i 0 : ℕ) = 256 * a + (i 0 : ℕ) % 256; omega
  · have e : (i 0 : ℕ) / 256 = a := by omega
    unfold XG; rw [e]

/-- The load of block `a`. -/
theorem g_loaded {a : ℕ} (ha : a < 16) {off} (hoff : off = ![256 * a, 0]) (inb) :
    (gM.view.readAt (Elt F) (Rect.unit (s := S4096x4096) off S256x4096.size inb).toLoadRect (XG m) : S256x4096.Idx → Elt F .fp8e4m3) = xrows m a := by
  funext j
  have h0 : (j 0 : ℕ) < 256 := (j 0).isLt
  refine read_g hoff inb (XG m) j _ ?_ (Nat.zero_add _).symm
  show (256 * a + (j 0 : ℕ)) % 4096 = 256 * a + (j 0 : ℕ); omega

/-- A remote copy between the same rows of two devices. -/
theorem g_copied {off} (inb) (f g : S4096x4096.Idx → Elt F .fp8e4m3) :
    ∀ i ∈ (gM.view.slice (Rect.unit (s := S4096x4096) off S256x4096.size inb)).set,
      (gM.view.slice (Rect.unit (s := S4096x4096) off S256x4096.size inb)).write (Elt F) f
        ((gM.view.slice (Rect.unit (s := S4096x4096) off S256x4096.size inb)).read (Elt F) g) Finset.univ i = g i := by
  intro i hi
  have h := View.write_read_eq_piecewise (Val := Elt F) (v := gM.view.slice (Rect.unit (s := S4096x4096) off S256x4096.size inb)) f g Finset.univ
  refine (congrFun h i).trans (Finset.piecewise_eq_of_mem _ _ _ ?_)
  rw [View.setOn_univ]; exact hi

/-- Chunk `n` of `w` copied into its slot. -/
theorem ws_copied (c : Dev nD) (n : ℕ) (hn : n < 8) (p : Fin 2) (inb) (hs) (hq) {off} (hoff : off = ![512 * n, 2048 * c.val]) (inb') (f) :
    ∀ i ∈ slot 2 512 2048 p,
      ((wsM.slice (Rect.unit (s := S2x512x2048) ![(p : ℕ), 0, 0] S1x512x2048.size inb) hs).squeeze S512x2048 hq).view.write (Elt F) f
        ((wM.view.slice (Rect.unit (s := S4096x8192) off S512x2048.size inb')).read (Elt F) (Wm m c)) Finset.univ i = WS m c n i := by
  intro i hi
  have h1 : (i 1 : ℕ) < 512 := (i 1).isLt
  refine (write_ws p inb hs hq f _ i hi).trans (read_w hoff inb' (Wm m c) _ _ ?_ rfl)
  show (512 * n + (i 1 : ℕ)) % 4096 = 512 * n + (i 1 : ℕ); omega

/-- The load of its slot after it. -/
theorem ws_loaded (c : Dev nD) (n : ℕ) (p : Fin 2) (inb) :
    (wsM.view.readAt (Elt F) (Rect.unit (s := S2x512x2048) ![(p : ℕ), 0, 0] S1x512x2048.size inb).toLoadRect (WS m c n) : S1x512x2048.Idx → Elt F .f32)
      = wt m c n := by
  funext j
  exact load_ws p inb (WS m c n) j

/-- The store of chunk `n`, the chunks before it stored. -/
theorem w8_stored (c : Dev nD) (n : ℕ) {off} (hoff : off = ![512 * n, 0]) (inb) (f : S4096x2048.Idx → Elt F .fp8e4m3)
    (hf : ∀ i : S4096x2048.Idx, (i 0 : ℕ) < 512 * n → f i = W8 m c i) :
    ∀ i : S4096x2048.Idx, (i 0 : ℕ) < 512 * (n + 1) →
      (w8M.access (Rect.unit (s := S4096x2048) off S512x2048.size inb)).write (Elt F) f (k0_pay7 (wt m c n)) Finset.univ i = W8 m c i := by
  intro i hi
  by_cases h : (i 0 : ℕ) < 512 * n
  · refine (View.write_of_not_mem (Val := Elt F) (v := w8M.access (Rect.unit (s := S4096x2048) off S512x2048.size inb)) f _ Finset.univ ?_).trans (hf i h)
    rw [View.setOn_univ]
    refine fun hm => ?_
    have hm' := (Finset.ext_iff.1 (View.set_slice_whole cc0_scratch1 (Rect.unit (s := S4096x2048) off S512x2048.size inb)) i).1 hm
    subst hoff
    rw [Rect.mem_set_unit] at hm'
    have := (hm' 0).1
    simp only [Matrix.cons_val_zero] at this
    omega
  · refine (write_w8 hoff inb f _ (ix2 (⟨(i 0 : ℕ) % 512, Nat.mod_lt _ (by decide)⟩ : Fin 512) (i 1 : Fin 2048)) i ?_ (Nat.zero_add _).symm).trans ?_
    · show (i 0 : ℕ) = 512 * n + (i 0 : ℕ) % 512; omega
    · have e : (i 0 : ℕ) / 512 = n := by omega
      unfold W8; rw [e]

/-- The store of block `a` of the result into its slot. -/
theorem st_stored (c : Dev nD) (a : ℕ) (p : Fin 2) (inb) (f) :
    ∀ i ∈ slot 2 256 2048 p,
      (stM.access (Rect.unit (s := S2x256x2048) ![(p : ℕ), 0, 0] S1x256x2048.size inb)).write (Elt F) f (ot m c a) Finset.univ i = OS m c a i :=
  fun i hi => store_st p inb f _ i hi

/-- Block `a` copied out. -/
theorem o_copied (c : Dev nD) {a : ℕ} (p : Fin 2) (inb) (hs) (hq) {off} (hoff : off = ![256 * a, 0]) (inb') (f) :
    ∀ i ∈ rows 4096 2048 a,
      (oM.view.slice (Rect.unit (s := S4096x2048) off S256x2048.size inb')).write (Elt F) f
        (((stM.slice (Rect.unit (s := S2x256x2048) ![(p : ℕ), 0, 0] S1x256x2048.size inb) hs).squeeze S256x2048 hq).view.read (Elt F) (OS m c a))
        Finset.univ i = OUT m c i := by
  intro i hi
  have h := mem_rows.1 hi
  refine (write_o hoff inb' f _ (ix2 (⟨(i 0 : ℕ) % 256, Nat.mod_lt _ (by decide)⟩ : Fin 256) (i 1 : Fin 2048)) i ?_ (Nat.zero_add _).symm).trans ?_
  · show (i 0 : ℕ) = 256 * a + (i 0 : ℕ) % 256; omega
  · refine (read_st p inb hs hq (OS m c a) _).trans ?_
    have e : (i 0 : ℕ) / 256 = a := by omega
    unfold OUT; rw [e]; rfl

/-! ## The printed payloads are three functions -/

theorem pay4 (v : Vec F S1x256x4096 .f32) : k0_pay4 (k0_pay3 v) = k0_pay2 v := rfl
theorem pay5 (v : Vec F S1x256x4096 .f32) : k0_pay5 v = k0_pay2 v := rfl
theorem pay6 (v : Vec F S1x256x4096 .f32) : k0_pay6 v = k0_pay2 v := rfl
theorem pay8 (v : Vec F S1x512x2048 .f32) : k0_pay8 v = k0_pay7 v := rfl
theorem pay10 (v : Vec F S1x512x2048 .f32) : k0_pay10 (k0_pay9 v) = k0_pay7 v := rfl
theorem pay11 (v : Vec F S1x512x2048 .f32) : k0_pay11 v = k0_pay7 v := rfl
theorem pay12 (v : Vec F S1x512x2048 .f32) : k0_pay12 v = k0_pay7 v := rfl
theorem pay13 (v : Vec F S1x512x2048 .f32) : k0_pay13 v = k0_pay7 v := rfl
theorem pay14 (v : Vec F S1x512x2048 .f32) : k0_pay14 v = k0_pay7 v := rfl
theorem pay16 (v : Vec F S1x512x2048 .f32) : k0_pay16 (k0_pay15 v) = k0_pay7 v := rfl
theorem pay18 (s : F .f32) (a : Vec F S256x4096 .fp8e4m3) (b : Vec F S4096x2048 .fp8e4m3) : k0_pay18 s a b = k0_pay17 s a b := rfl
theorem pay21 (s : F .f32) (a : Vec F S256x4096 .fp8e4m3) (b : Vec F S4096x2048 .fp8e4m3) : k0_pay21 s a b = k0_pay17 s a b := rfl
theorem pay22 (s : F .f32) (a : Vec F S256x4096 .fp8e4m3) (b : Vec F S4096x2048 .fp8e4m3) : k0_pay22 s a b = k0_pay17 s a b := rfl
theorem pay23 (s : F .f32) (a : Vec F S256x4096 .fp8e4m3) (b : Vec F S4096x2048 .fp8e4m3) : k0_pay23 s a b = k0_pay17 s a b := rfl
theorem pay24 (s : F .f32) (a : Vec F S256x4096 .fp8e4m3) (b : Vec F S4096x2048 .fp8e4m3) : k0_pay24 s a b = k0_pay17 s a b := rfl
theorem pay25 (s : F .f32) (a : Vec F S256x4096 .fp8e4m3) (b : Vec F S4096x2048 .fp8e4m3) : k0_pay25 s a b = k0_pay17 s a b := rfl
theorem pay29 (s : F .f32) (a : Vec F S256x4096 .fp8e4m3) (b : Vec F S4096x2048 .fp8e4m3) : k0_pay29 s a b = k0_pay17 s a b := rfl
theorem pay30 (s : F .f32) (a : Vec F S256x4096 .fp8e4m3) (b : Vec F S4096x2048 .fp8e4m3) : k0_pay30 s a b = k0_pay17 s a b := rfl
theorem pay31 (s : F .f32) (a : Vec F S256x4096 .fp8e4m3) (b : Vec F S4096x2048 .fp8e4m3) : k0_pay31 s a b = k0_pay17 s a b := rfl
theorem pay32 (s : F .f32) (a : Vec F S256x4096 .fp8e4m3) (b : Vec F S4096x2048 .fp8e4m3) : k0_pay32 s a b = k0_pay17 s a b := rfl
theorem pay33 (s : F .f32) (a : Vec F S256x4096 .fp8e4m3) (b : Vec F S4096x2048 .fp8e4m3) : k0_pay33 s a b = k0_pay17 s a b := rfl
theorem pay34 (s : F .f32) (a : Vec F S256x4096 .fp8e4m3) (b : Vec F S4096x2048 .fp8e4m3) : k0_pay34 s a b = k0_pay17 s a b := rfl
theorem pay35 (s : F .f32) (a : Vec F S256x4096 .fp8e4m3) (b : Vec F S4096x2048 .fp8e4m3) : k0_pay35 s a b = k0_pay17 s a b := rfl
theorem pay20 (s : F .f32) (a : Vec F S256x4096 .fp8e4m3) (b : Vec F S4096x2048 .fp8e4m3) : k0_pay20 (k0_pay19 s a b) = k0_pay17 s a b := rfl
theorem pay28 (s : F .f32) (a : Vec F S256x4096 .fp8e4m3) (b : Vec F S4096x2048 .fp8e4m3) : k0_pay28 (k0_pay26 s a b) k0_pay27 = k0_pay17 s a b := rfl

end Cert.RingMM

end
-- ==== Proof.Sched.lean ====
/-
# Who may touch what, when: the ring's cells, what each pays and what it hands over

Twelve transfers leave each device, numbered in program order `x = 4*hop + 2*half + direction` (direction 0 to the next device, 1 to the
previous). Transfer `x` sends the device's slot `x` and lands as slot `x + 4` of its neighbour, where slot `s` of a device is a block of 256
gathered rows: its own four quarters first, then the blocks in the order they arrive. Each device has 25 cells: its barrier semaphore, twelve
send and twelve receive semaphores. A send cell pays back half of the sent block's share; a receive cell hands over the landed block; a
barrier cell collects from each neighbour the places that neighbour's buffer offers for this device's transfers.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra: the pipeline's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb : UEmb UU (MT nD τ sig Unit (Elt F) ℕ UU ℕ)).toEmb
instance ER_landsIn : (ER : Emb UB 𝕄).LandsIn (upEmb : UEmb _ 𝕄) := by unfold ER; infer_instance

abbrev 𝒱₀ : Variants := Variants.none

variable (m : (ℓ : Loc nD τ sig) → Buf (Elt F) ℓ)

/-! ## The ring of devices, the slots -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Where transfer `x` of device `c` lands. -/
def dst (c : Dev nD) (x : ℕ) : Dev nD := if x % 2 = 0 then nxt c else prv c
/-- Where the transfer `y` landing on `c` came from. -/
def src (c : Dev nD) (y : ℕ) : Dev nD := if y % 2 = 0 then prv c else nxt c

theorem dst_src (c : Dev nD) (x : ℕ) : dst (src c x) x = c := by
  unfold dst src; split; exacts [nxt_prv c, prv_nxt c]
theorem src_dst (c : Dev nD) (x : ℕ) : src (dst c x) x = c := by
  unfold dst src; split; exacts [prv_nxt c, nxt_prv c]

/-- The device whose rows slot `s` of device `c` holds. -/
def org (c : Dev nD) (s : ℕ) : ℕ := if s % 2 = 0 then (c.val + 4 - s / 4) % 4 else (c.val + s / 4) % 4
/-- The quarter of that device's rows. -/
def qt (s : ℕ) : ℕ := s / 2 % 2 + 2 * (s % 2)
/-- The block of gathered rows slot `s` of device `c` is. -/
def blk (c : Dev nD) (s : ℕ) : ℕ := 4 * org c s + qt s

theorem blk_lt (c : Dev nD) (s : ℕ) : blk c s < 16 := by unfold blk org qt; split <;> omega
theorem blk_src : ∀ (c : Dev nD) (y : Fin 12), blk (src c y) y = blk c (y + 4) := by decide
theorem blk_inj : ∀ (c : Dev nD) (s t : Fin 16), blk c s = blk c t → s = t := by decide
theorem blk_own : ∀ (c : Dev nD) (s : Fin 4), blk c s = 4 * c.val + qt s := by decide

/-! ## The cells -/

abbrev barS : Sem sig := (SemArray.scalar (sig.barrier 0 rfl) : Sems sig S_).sem
/-- The send semaphore of transfer `x`. -/
def sSem (x : ℕ) : DmaSem sig := (⟨(8 + 12 * (x % 2) + x / 2) % 34, Nat.mod_lt _ (by decide)⟩ : Fin 34)
/-- The receive semaphore of transfer `y`. -/
def rSem (y : ℕ) : DmaSem sig := (⟨(14 + 12 * (y % 2) + y / 2) % 34, Nat.mod_lt _ (by decide)⟩ : Fin 34)

abbrev barCell (c : Dev nD) : GSem nD τ sig := ((c : Thread nD τ), .reg barS)
abbrev sendCell (c : Dev nD) (x : ℕ) : GSem nD τ sig := ((c : Thread nD τ), .dma (sSem x))
abbrev recvCell (c : Dev nD) (y : ℕ) : GSem nD τ sig := ((c : Thread nD τ), .dma (rSem y))

/-- Reading a semaphore's number: whether it is a send one, a receive one, and of which transfer. -/
def isS (q : DmaSem sig) : Bool := 8 ≤ q.val && q.val < 32 && (q.val - 8) % 12 < 6
def isR (q : DmaSem sig) : Bool := 8 ≤ q.val && q.val < 32 && 6 ≤ (q.val - 8) % 12
def num (q : DmaSem sig) : ℕ := 2 * ((q.val - 8) % 6) + (q.val - 8) / 12

theorem isS_s : ∀ x : Fin 12, isS (sSem x) = true := by decide
theorem isR_s : ∀ x : Fin 12, isR (sSem x) = false := by decide
theorem isS_r : ∀ x : Fin 12, isS (rSem x) = false := by decide
theorem isR_r : ∀ x : Fin 12, isR (rSem x) = true := by decide
theorem num_s : ∀ x : Fin 12, num (sSem x) = x := by decide
theorem num_r : ∀ x : Fin 12, num (rSem x) = x := by decide

/-- The 25 cells of a device: its barrier, its sends, its receives. -/
def csem (k : Fin 25) : SemLoc sig :=
  if k.val = 0 then .reg barS else if k.val < 13 then .dma (sSem (k.val - 1)) else .dma (rSem (k.val - 13))
abbrev kcell (ck : Dev nD × Fin 25) : GSem nD τ sig := ((ck.1 : Thread nD τ), csem ck.2)

def kS (x : Fin 12) : Fin 25 := ⟨1 + x.val, by omega⟩
def kR (y : Fin 12) : Fin 25 := ⟨13 + y.val, by omega⟩
theorem csem_S (x : Fin 12) : csem (kS x) = .dma (sSem x) := by revert x; decide
theorem csem_R (y : Fin 12) : csem (kR y) = .dma (rSem y) := by revert y; decide

theorem inb_blk0 (a : Fin 2) : (![0, 0] : Fin 2 → ℕ) a + S256x4096.size a ≤ S4096x4096.size a := by fin_cases a <;> decide
/-- The credit a block's transfer delivers. -/
def N : ℕ := ((gM : Memref sig .tc .vmem S4096x4096 .fp8e4m3).slice (Rect.unit (s := S4096x4096) ![0, 0] S256x4096.size inb_blk0) (fun _ => rfl)).view.dmaCredit
theorem N_pos : 0 < N := View.dmaCredit_pos _ (by decide)

/-! ## What the cells hand over -/

/-- Block `a` of device `c`'s gathered rows, at a share, holding `f`. -/
def gpts (c : Dev nD) (a : ℕ) (q : PosShare TreeShare) (f : Buf (Elt F) ((c : Thread nD τ).loc cc0_scratch0)) : sProp 𝕄 :=
  (c : Thread nD τ).loc cc0_scratch0 ↦[rows 4096 4096 a]{q} f

/-- The place transfer `x` of device `e` lands at. -/
def land (e : Dev nD) (x : ℕ) : sProp 𝕄 := iprop(∃ f, gpts (dst e x) (blk e x) fullShare f)
/-- What a signal to `e`'s barrier brings: from the next device (`true`) the six places of the transfers to it; from the previous the others. -/
def barPay (e : Dev nD) (d : Bool) : sProp 𝕄 :=
  bigSep Finset.univ fun n : Fin 6 => land (F := F) e (2 * n.val + if d then 0 else 1)
def sendPay (c : Dev nD) (x : ℕ) : sProp 𝕄 := gpts c (blk c x) fullShare.left (XG m)
def recvPay (c : Dev nD) (y : ℕ) : sProp 𝕄 := gpts c (blk c (y + 4)) fullShare (XG m)

omit [FloatOps F] in
instance gpts_storable (c : Dev nD) (a q f) : BI.Storable (upEmb : UEmb _ 𝕄) (gpts (F := F) c a q f) := by unfold gpts; infer_instance
omit [FloatOps F] in
instance land_storable (e : Dev nD) (x) : BI.Storable (upEmb : UEmb _ 𝕄) (land (F := F) e x) := by unfold land; infer_instance
omit [FloatOps F] in
instance barPay_storable (e : Dev nD) (d) : BI.Storable (upEmb : UEmb _ 𝕄) (barPay (F := F) e d) := by unfold barPay; infer_instance
instance sendPay_storable (c : Dev nD) (x) : BI.Storable (upEmb : UEmb _ 𝕄) (sendPay m c x) := by unfold sendPay; infer_instance
instance recvPay_storable (c : Dev nD) (y) : BI.Storable (upEmb : UEmb _ 𝕄) (recvPay m c y) := by unfold recvPay; infer_instance

/-- What duty `d` of a cell hands over. -/
def pay (c : Dev nD) (s : SemLoc sig) (d : Bool) : sProp 𝕄 :=
  match s with
  | .reg r => if r = barS then barPay c d else iprop(emp)
  | .dma q => if isS q then sendPay m c (num q) else if isR q then recvPay m c (num q) else iprop(emp)

instance pay_storable (c : Dev nD) (s d) : BI.Storable (upEmb : UEmb _ 𝕄) (pay m c s d) := by
  cases s <;> (unfold pay; dsimp only; (repeat' split) <;> infer_instance)

abbrev IsBar (g : GSem nD τ sig) : Prop := g.1.2 = .tc ∧ g.2 = .reg barS
abbrev IsXfer (g : GSem nD τ sig) : Prop := g.1.2 = .tc ∧ ∃ x : Fin 12, g.2 = .dma (sSem x) ∨ g.2 = .dma (rSem x)

/-- One round: a barrier cell has two duties of one unit, a transfer's cell one of a block's credit. -/
def ring : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := pay m g.1.1 g.2 d
  amount_pos g _ _ _ := by
    by_cases h : g.2 = .reg barS
    · rw [if_pos h]; exact Nat.one_pos
    · rw [if_neg h]; exact N_pos

instance ring_storable (g : GSem nD τ sig) (r : ℕ) (d : Bool) : BI.Storable (upEmb : UEmb _ 𝕄) ((ring (F := F) m).payload g r d) :=
  pay_storable m g.1.1 g.2 d

section Facts
variable (c : Dev nD)

theorem dma_ne_bar (q : DmaSem sig) : (SemLoc.dma q : SemLoc sig) ≠ .reg barS := fun h => by cases h

theorem duties_bar : (ring (F := F) m).duties (barCell c) 0 = Finset.univ := by dsimp only [ring]; exact if_pos ⟨rfl, rfl, rfl⟩
theorem duties_send (x : Fin 12) : (ring (F := F) m).duties (sendCell c x) 0 = {false} := by
  dsimp only [ring]; rw [if_neg (fun h => dma_ne_bar _ h.2.2)]; exact if_pos ⟨rfl, rfl, x, .inl rfl⟩
theorem duties_recv (x : Fin 12) : (ring (F := F) m).duties (recvCell c x) 0 = {false} := by
  dsimp only [ring]; rw [if_neg (fun h => dma_ne_bar _ h.2.2)]; exact if_pos ⟨rfl, rfl, x, .inr rfl⟩
theorem duties_later (g : GSem nD τ sig) : ∀ r, 1 ≤ r → (ring (F := F) m).duties g r = ∅ :=
  fun r hr => by dsimp only [ring]; rw [if_neg fun h => by omega, if_neg fun h => by omega]

theorem amount_bar (d : Bool) : (ring (F := F) m).amount (barCell c) 0 d = 1 := by dsimp only [ring]; exact if_pos rfl
theorem amount_dma (q : DmaSem sig) (d : Bool) : (ring (F := F) m).amount ((c : Thread nD τ), .dma q) 0 d = N := by
  dsimp only [ring]; exact if_neg (dma_ne_bar q)

theorem expect_bar : (ring (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send (x : Fin 12) : (ring (F := F) m).expect (sendCell c x) 0 = N := by
  unfold Schedule.expect Schedule.amountOf; rw [duties_send, Finset.sum_singleton, amount_dma]
theorem expect_recv (x : Fin 12) : (ring (F := F) m).expect (recvCell c x) 0 = N := by
  unfold Schedule.expect Schedule.amountOf; rw [duties_recv, Finset.sum_singleton, amount_dma]

theorem payload_bar (d : Bool) : (ring (F := F) m).payload (barCell c) 0 d = barPay c d := by
  dsimp only [ring, pay]; exact if_pos rfl
theorem payload_send (x : Fin 12) (d : Bool) : (ring (F := F) m).payload (sendCell c x) 0 d = sendPay m c x := by
  dsimp only [ring, pay]; rw [isS_s, if_pos rfl, num_s]
theorem payload_recv (x : Fin 12) (d : Bool) : (ring (F := F) m).payload (recvCell c x) 0 d = recvPay m c x := by
  dsimp only [ring, pay]; rw [isS_r, if_neg Bool.false_ne_true, isR_r, if_pos rfl, num_r]

theorem rest_bar : bigSep ((ring (F := F) m).duties (barCell c) 0 \ ∅) (fun d => (ring (F := F) m).payload (barCell c) 0 d)
    = iprop(barPay c true ∗ barPay (F := F) c false) := by
  rw [Finset.sdiff_empty, duties_bar, bigSep_univ_eq_bigSepL [true, false] (by decide) (by decide), bigSepL_cons_cons, bigSepL_singleton,
    payload_bar, payload_bar]
  rfl
theorem rest_send (x : Fin 12) : bigSep ((ring (F := F) m).duties (sendCell c x) 0 \ ∅) (fun d => (ring (F := F) m).payload (sendCell c x) 0 d)
    = sendPay m c x := by
  rw [Finset.sdiff_empty, duties_send, bigSep_singleton, payload_send]
theorem rest_recv (x : Fin 12) : bigSep ((ring (F := F) m).duties (recvCell c x) 0 \ ∅) (fun d => (ring (F := F) m).payload (recvCell c x) 0 d)
    = recvPay m c x := by
  rw [Finset.sdiff_empty, duties_recv, bigSep_singleton, payload_recv]

end Facts

/-! ## What is owed, and the levels -/

/-- What `c` owes with `k` transfers to go (the last `k`): their receive cells' credits. -/
def rem (c : Dev nD) : ℕ → CellTallies nD τ sig Unit
  | 0 => 0
  | k + 1 => rem c k + tallyAt (recvCell (dst c (11 - k)) (11 - k)) () N

/-- At launch: all twelve, and one unit to each neighbour's barrier (to the previous device's first). -/
def O₁ (c : Dev nD) : CellTallies nD τ sig Unit := rem c 12 + tallyAt (barCell (nxt c)) () 1
def O₀ (c : Dev nD) : CellTallies nD τ sig Unit := O₁ c + tallyAt (barCell (prv c)) () 1

def L (g : GSem nD τ sig) : Finset Unit := if g.1.2 = .tc then {()} else ∅
/-- Barriers at 1, the receive cells of hop `h` at `2 + h`, everything else at 0. -/
def lv (g : GSem nD τ sig) (_ : Unit) : ℕ :=
  match g.2 with
  | .reg r => if r = barS then 1 else 0
  | .dma q => if isR q then 2 + num q / 4 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (y : Fin 12) : lv (recvCell c y) () = 2 + y / 4 := by
  dsimp only [lv]; rw [isR_r, if_pos rfl, num_r]
theorem lv_bar (c : Dev nD) : lv (barCell c) () = 1 := by dsimp only [lv]; exact if_pos rfl

theorem tally_pos {g h : GSem nD τ sig} {n : ℕ} {u : Unit} (hp : 0 < (tallyAt g () n : CellTallies nD τ sig Unit) h u) : h = g := by
  rw [tallyAt_apply] at hp
  by_contra hn
  rw [if_neg (fun h' => hn h'.1)] at hp
  exact Nat.lt_irrefl 0 hp

theorem add_pos_cases {A B : CellTallies nD τ sig Unit} {g : GSem nD τ sig} {u : Unit} (h : 0 < (A + B) g u) : 0 < A g u ∨ 0 < B g u := by
  rw [Pi.add_apply, Finsupp.add_apply] at h; omega

theorem rem_pos {c : Dev nD} {g : GSem nD τ sig} {u : Unit} : ∀ {k : ℕ}, k ≤ 12 → 0 < rem c k g u →
    ∃ x : Fin 12, 12 - k ≤ x.val ∧ g = recvCell (dst c x) x
  | 0, _, h => absurd h (Nat.lt_irrefl 0)
  | k + 1, hk, h => by
    rcases add_pos_cases h with h | h
    · obtain ⟨x, hx, rfl⟩ := rem_pos (by omega) h; exact ⟨x, by omega, rfl⟩
    · exact ⟨⟨11 - k, by omega⟩, by show 12 - (k + 1) ≤ 11 - k; omega, tally_pos h⟩

theorem O₀_pos {c : Dev nD} {g : GSem nD τ sig} {u : Unit} (h : 0 < O₀ c g u) :
    (∃ x : Fin 12, g = recvCell (dst c x) x) ∨ g = barCell (nxt c) ∨ g = barCell (prv c) := by
  rcases add_pos_cases h with h | h
  · rcases add_pos_cases h with h | h
    · obtain ⟨x, _, hx⟩ := rem_pos (le_refl 12) h; exact .inl ⟨x, hx⟩
    · exact .inr (.inl (tally_pos h))
  · exact .inr (.inr (tally_pos h))

omit [FloatOps F] in
/-- A wait on a semaphore of level 0 is allowed whatever is owed. -/
theorem mayWait_low (c : Dev nD) (q : DmaSem sig) (hq : isR q = false) (k : ℕ) (hk : k ≤ 12) :
    (levAts L lv : sProp 𝕄) ⊢ MayWait (c : Thread nD τ) (.dma q) () (rem c k) :=
  MayOwe.of_cut (L := L) (lev := lv) 0 (fun p hp => by rw [Finset.mem_singleton.mp hp, L_tc]; exact Finset.mem_singleton_self _)
    (fun g u hg => by obtain ⟨x, _, rfl⟩ := rem_pos hk hg; exact Finset.mem_singleton_self _)
    (fun p hp => by rw [Finset.mem_singleton.mp hp]; dsimp only [lv]; rw [hq]; exact le_of_eq (if_neg Bool.false_ne_true))
    (fun g u hg => by obtain ⟨x, _, rfl⟩ := rem_pos hk hg; rw [lv_recv]; omega)

omit [FloatOps F] in
theorem mayWait_start (c : Dev nD) (q : DmaSem sig) (hq : isR q = false) :
    (levAts L lv : sProp 𝕄) ⊢ MayWait (c : Thread nD τ) (.dma q) () (O₀ c) :=
  MayOwe.of_cut (L := L) (lev := lv) 0 (fun p hp => by rw [Finset.mem_singleton.mp hp, L_tc]; exact Finset.mem_singleton_self _)
    (fun g u hg => by rcases O₀_pos hg with ⟨x, rfl⟩ | rfl | rfl <;> exact Finset.mem_singleton_self _)
    (fun p hp => by rw [Finset.mem_singleton.mp hp]; dsimp only [lv]; rw [hq]; exact le_of_eq (if_neg Bool.false_ne_true))
    (fun g u hg => by
      rcases O₀_pos hg with ⟨x, rfl⟩ | rfl | rfl
      · rw [lv_recv]; omega
      · rw [lv_bar]; omega
      · rw [lv_bar]; omega)

omit [FloatOps F] in
theorem mayWait_bar (c : Dev nD) : (levAts L lv : sProp 𝕄) ⊢ MayWait (c : Thread nD τ) (.reg barS) () (rem c 12) :=
  MayOwe.of_cut (L := L) (lev := lv) 1 (fun p hp => by rw [Finset.mem_singleton.mp hp, L_tc]; exact Finset.mem_singleton_self _)
    (fun g u hg => by obtain ⟨x, _, rfl⟩ := rem_pos (le_refl _) hg; exact Finset.mem_singleton_self _)
    (fun p hp => by rw [Finset.mem_singleton.mp hp]; exact le_of_eq (lv_bar c))
    (fun g u hg => by obtain ⟨x, _, rfl⟩ := rem_pos (le_refl _) hg; rw [lv_recv]; omega)

omit [FloatOps F] in
/-- A receive of hop `h` may be waited for once every transfer of the hops up to `h` has gone. -/
theorem mayWait_recv (c : Dev nD) (y : Fin 12) (t : ℕ) (ht : 4 * (y.val / 4) + 4 ≤ t) :
    (levAts L lv : sProp 𝕄) ⊢ MayWait (c : Thread nD τ) (.dma (rSem y)) () (rem c (12 - t)) :=
  MayOwe.of_cut (L := L) (lev := lv) (2 + y / 4) (fun p hp => by rw [Finset.mem_singleton.mp hp, L_tc]; exact Finset.mem_singleton_self _)
    (fun g u hg => by obtain ⟨x, _, rfl⟩ := rem_pos (by omega) hg; exact Finset.mem_singleton_self _)
    (fun p hp => by rw [Finset.mem_singleton.mp hp]; exact le_of_eq (lv_recv c y))
    (fun g u hg => by obtain ⟨x, hx, rfl⟩ := rem_pos (by omega) hg; rw [lv_recv]; have := y.isLt; omega)

end Cert.RingMM
-- ==== Proof.State.lean ====
/-
# What a device holds between two operations of the body

The body's progress is twelve counts: copies of `x` started, waited for and stored; chunks of `w` started, waited for and stored; transfers
sent, received and confirmed; result blocks stored, copied out and confirmed. `St` says what the device holds at given counts, buffer piece by
buffer piece: each family of pieces is a separating conjunction whose member `i` is in a STAGE the counts give.
-/
module

public import proofs.«01_k».proof.Proof.Sched

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families of pieces -/

omit [FloatOps F] in
theorem fam_split {n : ℕ} (Φ : Fin n → sProp 𝕄) (x : Fin n) :
    bigSep Finset.univ Φ = iprop(Φ x ∗ bigSep (Finset.univ.erase x) Φ) := bigSep_univ_split x

omit [FloatOps F] in
theorem fam_elim {I : Type} [Fintype I] [DecidableEq I] (Φ : I → sProp 𝕄) (x : I) : bigSep Finset.univ Φ ⊢ Φ x := bigSep_elim (Finset.mem_univ x)

omit [FloatOps F] in
/-- One member of a family changes stage, the others stay. -/
theorem fam_take {n : ℕ} (P : Fin n → ℕ → sProp 𝕄) {s s' : ℕ → ℕ} (x : Fin n) (a a' : ℕ) (ha : s x = a) (ha' : s' x = a')
    (h : ∀ y : Fin n, (y : ℕ) ≠ x → s' y = s y) :
    (bigSep Finset.univ fun y : Fin n => P y (s y)) ⊢ iprop(P x a ∗ (P x a' -∗ bigSep Finset.univ fun y : Fin n => P y (s' y))) := by
  rw [fam_split _ x, fam_split (fun y : Fin n => P y (s' y)) x, ha, ha',
    bigSep_congr (s := Finset.univ.erase x) (Φ := fun y : Fin n => P y (s' y)) (Ψ := fun y : Fin n => P y (s y)) fun y hy => by
      rw [h y fun e => (Finset.mem_erase.1 hy).1 (Fin.ext e)]]
  iintro ⟨H, Hr⟩
  isplitl [H]; · iexact H
  iintro H
  isplitl [H] <;> iassumption

omit [FloatOps F] in
theorem pts_set {ℓ : Loc nD τ sig} {S T : Finset (Idx ℓ)} {q : PosShare TreeShare} {f : Buf (Elt F) ℓ} (h : S = T) :
    (ℓ ↦[S]{q} f : sProp 𝕄) = ℓ ↦[T]{q} f := by rw [h]

/-! ## The local copies' semaphores -/

def xSem (q : ℕ) : DmaSem sig := (⟨(4 + q) % 34, Nat.mod_lt _ (by decide)⟩ : Fin 34)
def wSem (p : ℕ) : DmaSem sig := (⟨(2 + p) % 34, Nat.mod_lt _ (by decide)⟩ : Fin 34)
def oSem (p : ℕ) : DmaSem sig := (⟨(32 + p) % 34, Nat.mod_lt _ (by decide)⟩ : Fin 34)
theorem isR_x : ∀ q : Fin 4, isR (xSem q) = false := by decide
theorem isR_w : ∀ p : Fin 2, isR (wSem p) = false := by decide
theorem isR_o : ∀ p : Fin 2, isR (oSem p) = false := by decide

/-! ## The pieces -/

def xslot (c : Dev nD) (q : ℕ) (f : S4x256x4096.Idx → Elt F .f32) : sProp 𝕄 := (c : Thread nD τ).loc cc0_scratch3 ↦[slot 4 256 4096 q]{fullShare} f
def wslot (c : Dev nD) (p : ℕ) (f : S2x512x2048.Idx → Elt F .f32) : sProp 𝕄 := (c : Thread nD τ).loc cc0_scratch2 ↦[slot 2 512 2048 p]{fullShare} f
def oslot (c : Dev nD) (p : ℕ) (f : S2x256x2048.Idx → Elt F .f32) : sProp 𝕄 := (c : Thread nD τ).loc cc0_scratch4 ↦[slot 2 256 2048 p]{fullShare} f
def xsrc (c : Dev nD) (q : ℕ) : sProp 𝕄 := (c : Thread nD τ).loc main_arg0 ↦[rows 1024 4096 q]{fullShare} X m c
def wsrc (c : Dev nD) (n : ℕ) : sProp 𝕄 := (c : Thread nD τ).loc main_arg1 ↦[wset c.val n]{fullShare} Wm m c
def odst (c : Dev nD) (a : ℕ) (f : S4096x2048.Idx → Elt F .f32) : sProp 𝕄 := (c : Thread nD τ).loc main_v1 ↦[rows 4096 2048 a]{fullShare} f

/-- The credits of the local copies: of a quarter of `x`, of a chunk of `w`, of a block of the result. -/
def NX : ℕ := ((xsM : Memref sig .tc .vmem S4x256x4096 .f32).slice (Rect.unit (s := S4x256x4096) ![0, 0, 0] S1x256x4096.size inb_S4x256x4096_S1x256x4096_0_0_0) (fun _ => rfl) |>.squeeze S256x4096 squeezes_S1x256x4096_S256x4096).view.dmaCredit
def NW : ℕ := ((wsM : Memref sig .tc .vmem S2x512x2048 .f32).slice (Rect.unit (s := S2x512x2048) ![0, 0, 0] S1x512x2048.size inb_S2x512x2048_S1x512x2048_0_0_0) (fun _ => rfl) |>.squeeze S512x2048 squeezes_S1x512x2048_S512x2048).view.dmaCredit
theorem inb_out0 (a : Fin 2) : (![0, 0] : Fin 2 → ℕ) a + S256x2048.size a ≤ S4096x2048.size a := by fin_cases a <;> decide
def NO : ℕ := ((oM : Memref sig .tc .hbm S4096x2048 .f32).slice (Rect.unit (s := S4096x2048) ![0, 0] S256x2048.size inb_out0) (fun _ => rfl)).view.dmaCredit
theorem NX_pos : 0 < NX := View.dmaCredit_pos _ (by decide)
theorem NW_pos : 0 < NW := View.dmaCredit_pos _ (by decide)
theorem NO_pos : 0 < NO := View.dmaCredit_pos _ (by decide)

/-! ### The staging slots of `x`: idle, being filled, filled -/

def pX (c : Dev nD) (q : Fin 4) : ℕ → sProp 𝕄
  | 0 => iprop((∃ f, xslot c q f) ∗ semVal ((c : Thread nD τ), .dma (xSem q)) 0 ∗ xsrc m c q)
  | 1 => Transfers.Flight countersEmb (c : Thread nD τ) (.dma (xSem q)) () NX iprop(xslot c q (XS m c) ∗ xsrc m c q)
  | _ => iprop(xslot c q (XS m c) ∗ semVal ((c : Thread nD τ), .dma (xSem q)) 0 ∗ xsrc m c q)
def stX (xs xw q : ℕ) : ℕ := if qt q < xw then 2 else if q < xs then 1 else 0
def famX (c : Dev nD) (xs xw : ℕ) : sProp 𝕄 := bigSep Finset.univ fun q : Fin 4 => pX m c q (stX xs xw q)

/-! ### The chunks of `w`, in slot `i % 2`: member `i` is chunk `i - 2`, the first two stand for the slots' first idle state -/

/-- Chunk `i - 2` of `w` in its array. -/
def wsrc' (c : Dev nD) (i : ℕ) : sProp 𝕄 := if 2 ≤ i then wsrc m c (i - 2) else iprop(emp)
def pW (c : Dev nD) (i : Fin 10) : ℕ → sProp 𝕄
  | 0 => wsrc' m c i
  | 1 => Transfers.Flight countersEmb (c : Thread nD τ) (.dma (wSem (i % 2))) () NW iprop(wslot c (i % 2) (WS m c (i - 2)) ∗ wsrc' m c i)
  | 2 => iprop((∃ f, ⌜2 ≤ (i : ℕ) → f = WS m c (i - 2)⌝ ∗ wslot c (i % 2) f) ∗ semVal ((c : Thread nD τ), .dma (wSem (i % 2))) 0 ∗ wsrc' m c i)
  | _ => wsrc' m c i
def stW (ws ww i : ℕ) : ℕ := if 2 ≤ i ∧ ws ≤ i - 2 then 0 else if 2 ≤ i ∧ ww ≤ i - 2 then 1 else if ws ≤ i then 2 else 3
def famW (c : Dev nD) (ws ww : ℕ) : sProp 𝕄 := bigSep Finset.univ fun i : Fin 10 => pW m c i (stW ws ww i)

/-- The eight-bit columns, their first `n` chunks stored. -/
def w8P (c : Dev nD) (n : ℕ) : sProp 𝕄 :=
  iprop(∃ f : S4096x2048.Idx → Elt F .fp8e4m3, ⌜∀ i : S4096x2048.Idx, (i 0 : ℕ) < 512 * n → f i = W8 m c i⌝
    ∗ ((c : Thread nD τ).loc cc0_scratch1 ↦[Finset.univ]{fullShare} f))

/-! ### The slots of gathered rows: absent (an own quarter: not yet stored), held, half lent to a transfer -/

def pG (c : Dev nD) (s : Fin 16) : ℕ → sProp 𝕄
  | 0 => if (s : ℕ) < 4 then iprop(∃ f, gpts c (blk c s) fullShare f) else iprop(emp)
  | 1 => gpts c (blk c s) fullShare (XG m)
  | _ => gpts c (blk c s) fullShare.right (XG m)
def stG (xst rcv snd sw s : ℕ) : ℕ :=
  if (s < 4 ∧ xst ≤ s) ∨ (4 ≤ s ∧ rcv ≤ s - 4) then 0 else if s < snd ∧ sw ≤ s then 2 else 1
def famG (c : Dev nD) (xst rcv snd sw : ℕ) : sProp 𝕄 := bigSep Finset.univ fun s : Fin 16 => pG m c s (stG xst rcv snd sw s)

/-! ### The transfers sent: to go, under way, confirmed; and received: awaited, here -/

def pS (c : Dev nD) (x : Fin 12) : ℕ → sProp 𝕄
  | 0 => iprop(dutyTok ER (sendCell c x) 0 false ∗ dutyTok ER (recvCell (dst c x) x) 0 false ∗ land (F := F) c x ∗ atPos ER (sendCell c x) 0 ∅ 0)
  | 1 => iprop(cred (tallyAt (sendCell c x) () N) ∗ atPos ER (sendCell c x) 0 ∅ 0)
  | _ => semVal (sendCell c x) 0
def stS (snd sw x : ℕ) : ℕ := if snd ≤ x then 0 else if sw ≤ x then 1 else 2
def famS (c : Dev nD) (snd sw : ℕ) : sProp 𝕄 := bigSep Finset.univ fun x : Fin 12 => pS (F := F) c x (stS snd sw x)

def pR (c : Dev nD) (y : Fin 12) : ℕ → sProp 𝕄
  | 0 => iprop(cred (tallyAt (recvCell c y) () N) ∗ atPos ER (recvCell c y) 0 ∅ 0)
  | _ => semVal (recvCell c y) 0
def stR (rcv y : ℕ) : ℕ := if rcv ≤ y then 0 else 1
def famR (c : Dev nD) (rcv : ℕ) : sProp 𝕄 := bigSep Finset.univ fun y : Fin 12 => pR (F := F) c y (stR rcv y)

/-! ### The result's blocks, staged in slot `i % 2`: member `i` is the `i - 2`-th computed -/

/-- The slot of gathered rows the `n`-th computed block is the product of. -/
def ord (n : ℕ) : ℕ := if n < 8 ∧ n % 4 = 1 then n + 1 else if n < 8 ∧ n % 4 = 2 then n - 1 else n
def ob (c : Dev nD) (i : ℕ) : ℕ := blk c (ord (i - 2))
def odone (c : Dev nD) (i : ℕ) : sProp 𝕄 := if 2 ≤ i then odst c (ob c i) (OUT m c) else iprop(emp)
def pO (c : Dev nD) (i : Fin 18) : ℕ → sProp 𝕄
  | 0 => if 2 ≤ (i : ℕ) then iprop(∃ f, odst c (ob c i) f) else iprop(emp)
  | 1 => iprop((∃ f, odst c (ob c i) f) ∗ semVal ((c : Thread nD τ), .dma (oSem (i % 2))) 0 ∗ oslot c (i % 2) (OS m c (ob c i)))
  | 2 => Transfers.Flight countersEmb (c : Thread nD τ) (.dma (oSem (i % 2))) () NO iprop(odst c (ob c i) (OUT m c) ∗ oslot c (i % 2) (OS m c (ob c i)))
  | 3 => iprop(odone m c i ∗ semVal ((c : Thread nD τ), .dma (oSem (i % 2))) 0 ∗ ∃ f, oslot c (i % 2) f)
  | _ => odone m c i
def stO (os oe ow i : ℕ) : ℕ :=
  if 2 ≤ i ∧ os ≤ i - 2 then 0 else if 2 ≤ i ∧ oe ≤ i - 2 then 1 else if 2 ≤ i ∧ ow ≤ i - 2 then 2 else if os ≤ i then 3 else 4
def famO (c : Dev nD) (os oe ow : ℕ) : sProp 𝕄 := bigSep Finset.univ fun i : Fin 18 => pO m c i (stO os oe ow i)

/-! ## The state -/

variable (K : Dev nD × Fin 25 → ℕ)

/-- What everyone knows: every cell's invariant, that its first round is open, and the levels. -/
def env : sProp 𝕄 :=
  iprop(((bigSep Finset.univ fun ck : Dev nD × Fin 25 => cellInv ER (ring m) (K ck) (kcell ck))
    ∗ bigSep Finset.univ fun ck : Dev nD × Fin 25 => reached ER (kcell ck) 0) ∗ levAts L lv)

instance env_persistent : BI.Persistent (env m K) := by unfold env; infer_instance

/-- The credits still owed, `t` transfers sent. -/
def owesP (c : Dev nD) (t : ℕ) : sProp 𝕄 := iprop(∃ W, owes (c : Thread nD τ) (rem c (12 - t)) W)

def St (c : Dev nD) (xs xw xst ws ww w8 snd rcv sw os oe ow : ℕ) : sProp 𝕄 :=
  iprop(env m K ∗ owesP c snd ∗ famX m c xs xw ∗ famW m c ws ww ∗ w8P m c w8 ∗ famG m c xst rcv snd sw ∗ famS c snd sw ∗ famR c rcv ∗ famO m c os oe ow)

theorem env_lev : env m K ⊢ levAts L lv := by unfold env; iintro ⟨-, H⟩; iexact H
theorem env_inv (ck : Dev nD × Fin 25) : env m K ⊢ cellInv ER (ring m) (K ck) (kcell ck) := by
  unfold env; iintro ⟨⟨H, -⟩, -⟩
  iapply (fam_elim (fun ck : Dev nD × Fin 25 => (cellInv ER (ring m) (K ck) (kcell ck) : sProp 𝕄)) ck); iexact H
theorem env_reached (ck : Dev nD × Fin 25) : env m K ⊢ reached ER (kcell ck) 0 := by
  unfold env; iintro ⟨⟨-, H⟩, -⟩
  iapply (fam_elim (fun ck : Dev nD × Fin 25 => (reached ER (kcell ck) 0 : sProp 𝕄)) ck); iexact H

theorem inv_send (c : Dev nD) (x : Fin 12) : env m K ⊢ cellInv ER (ring m) (K (c, kS x)) (sendCell c x) :=
  (env_inv m K (c, kS x)).trans (Entails.of_eq (by show _ = cellInv ER (ring m) _ ((c : Thread nD τ), SemLoc.dma (sSem x)); rw [← csem_S]))
theorem inv_recv (c : Dev nD) (y : Fin 12) : env m K ⊢ cellInv ER (ring m) (K (c, kR y)) (recvCell c y) :=
  (env_inv m K (c, kR y)).trans (Entails.of_eq (by show _ = cellInv ER (ring m) _ ((c : Thread nD τ), SemLoc.dma (rSem y)); rw [← csem_R]))
theorem reached_send (c : Dev nD) (x : Fin 12) : env m K ⊢ reached ER (sendCell c x) 0 :=
  (env_reached m K (c, kS x)).trans (Entails.of_eq (by show _ = reached ER ((c : Thread nD τ), SemLoc.dma (sSem x)) 0; rw [← csem_S]))
theorem reached_recv (c : Dev nD) (y : Fin 12) : env m K ⊢ reached ER (recvCell c y) 0 :=
  (env_reached m K (c, kR y)).trans (Entails.of_eq (by show _ = reached ER ((c : Thread nD τ), SemLoc.dma (rSem y)) 0; rw [← csem_R]))

/-- The running of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.RingMM
-- ==== Proof.OpsX.lean ====
/-
# The operations on `x` and `w`: copies in, waits, loads, casts stored

Each rule reads: to run the operation from the state at these counts, run what follows from the state at the next.
-/
module

public import proofs.«01_k».proof.Proof.State

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ)
variable {c : Dev nD} {xs xw xst ws ww w8 snd rcv sw os oe ow : ℕ} {R : sProp (MT nD τ sig Unit (Elt F) ℕ UU ℕ)} {α : Type} {Q : α → sProp (MT nD τ sig Unit (Elt F) ℕ UU ℕ)}

theorem qt_inj : ∀ y q : Fin 4, qt y = qt q → y = q := by decide

theorem pW_0 (c : Dev nD) (i : Fin 10) : pW m c i 0 = wsrc' m c i := rfl
theorem pW_1 (c : Dev nD) (i : Fin 10) : pW m c i 1
    = Transfers.Flight countersEmb (c : Thread nD τ) (.dma (wSem (i % 2))) () NW iprop(wslot c (i % 2) (WS m c (i - 2)) ∗ wsrc' m c i) := rfl
theorem pW_2 (c : Dev nD) (i : Fin 10) : pW m c i 2
    = iprop((∃ f, ⌜2 ≤ (i : ℕ) → f = WS m c (i - 2)⌝ ∗ wslot c (i % 2) f) ∗ semVal ((c : Thread nD τ), .dma (wSem (i % 2))) 0 ∗ wsrc' m c i) := rfl
theorem pW_3 (c : Dev nD) (i : Fin 10) : pW m c i 3 = wsrc' m c i := rfl

/-- Quarter `q` of `x` sets off for its slot. -/
theorem op_xstart (q : Fin 4) (hn : xs = q) (hw : xw ≤ qt q) {sem : DmaSem sig} (hsem : sem = xSem q)
    {off : Fin 2 → ℕ} (hoff : off = ![256 * (q : ℕ), 0]) {inb inb' hs hs' hq w1 w2 hty}
    {k : PUnit → Prog (TpuEff nD τ sig (Elt F) Λ₀ .tc) α}
    (h : iprop(St m K c (xs + 1) xw xst ws ww w8 snd rcv sw os oe ow ∗ R) ⊢ WP c (k ⟨⟩) Q) :
    iprop(St m K c xs xw xst ws ww w8 snd rcv sw os oe ow ∗ R)
      ⊢ WP c (.op (.enqueueDma (xM.slice (Rect.unit (s := S1024x4096) off S256x4096.size inb') hs')
          (.here ((xsM.slice (Rect.unit (s := S4x256x4096) ![(q : ℕ), 0, 0] S1x256x4096.size inb) hs).squeeze S256x4096 hq)) (.dma sem) w1 w2 hty) k) Q := by
  subst hsem
  have ha : stX xs xw q = 0 := by unfold stX; split_ifs <;> omega
  have ha' : stX (xs + 1) xw q = 1 := by unfold stX; split_ifs <;> omega
  have hr : ∀ y : Fin 4, (y : ℕ) ≠ q → stX (xs + 1) xw y = stX xs xw y := fun y hy => by unfold stX; split_ifs <;> omega
  unfold St
  iintro ⟨⟨He, Ho, HX, Hrest⟩, HR⟩
  unfold famX
  ihave H := (fam_take (pX m c) q 0 1 ha ha' hr) $$ HX
  icases H with ⟨Hp, Hback⟩
  simp only [pX]
  icases Hp with ⟨⟨%f, Hslot⟩, Hv, Hsrc⟩
  unfold xslot xsrc
  iapply (Transfers.wp_dmaLocal countersEmb 𝒱₀ (c : Thread nD τ) none () NX rfl NX_pos (Sd := slot 4 256 4096 q) (fd := f) (fs := X m c)
    (q := fullShare) (le_of_eq (set_xs q inb hs hq))) $$ [Hslot Hv Hsrc]
  · isplitl [Hsrc]; · iapply (Entails.of_eq (pts_set (set_x hoff inb')).symm); iexact Hsrc
    isplitl [Hslot] <;> iassumption
  iintro HF
  iapply h
  unfold St famX
  isplitr [HR]
  · isplitl [He]; · iexact He
    isplitl [Ho]; · iexact Ho
    isplitr [Hrest]
    · iapply Hback
      iapply (Transfers.Flight_mono countersEmb (c : Thread nD τ) (BIClass.sep_mono
        (Entails.of_eq (pointsTo_congr (xs_copied m c q inb hs hq hoff inb' f))) (Entails.of_eq (pts_set (set_x hoff inb'))))) $$ HF
    · iexact Hrest
  · iexact HR

/-- The wait for quarter `q`. -/
theorem op_xwait (q : Fin 4) (hn : qt q = xw) (hlt : q < xs) (ht : snd ≤ 12) {sem : DmaSem sig} (hsem : sem = xSem q)
    {sp sp' : Space} {s s' : Shape} {e e' : EltTy} {srcw : Memref sig .tc sp' s' e'} {dstw : Memref sig .tc sp s e} {w1 w2}
    (hN : dstw.view.dmaCredit = NX) {k : PUnit → Prog (TpuEff nD τ sig (Elt F) Λ₀ .tc) α}
    (h : iprop(St m K c xs (xw + 1) xst ws ww w8 snd rcv sw os oe ow ∗ R) ⊢ WP c (k ⟨⟩) Q) :
    iprop(St m K c xs xw xst ws ww w8 snd rcv sw os oe ow ∗ R) ⊢ WP c (.op (.waitDma2 sem srcw dstw w1 w2) k) Q := by
  subst hsem
  have ha : stX xs xw q = 1 := by unfold stX; split_ifs <;> omega
  have ha' : stX xs (xw + 1) q = 2 := by unfold stX; split_ifs <;> omega
  have hr : ∀ y : Fin 4, (y : ℕ) ≠ q → stX xs (xw + 1) y = stX xs xw y := fun y hy => by
    have hqt : qt y ≠ qt q := fun e => hy (congrArg Fin.val (qt_inj y q e))
    unfold stX; split_ifs <;> omega
  unfold St
  iintro ⟨⟨#He, Ho, HX, Hrest⟩, HR⟩
  unfold famX
  ihave H := (fam_take (pX m c) q 1 2 ha ha' hr) $$ HX
  icases H with ⟨Hp, Hback⟩
  simp only [pX]
  unfold owesP
  icases Ho with ⟨%W, Ho⟩
  iapply (Transfers.wp_waitLocalO countersEmb 𝒱₀ (c : Thread nD τ) none () hN (O := rem c (12 - snd)) (W := W)) $$ [Hp Ho]
  · isplitl [Hp]; · iexact Hp
    isplitl [Ho]; · iexact Ho
    iapply (mayWait_low c (xSem q) (isR_x q) (12 - snd) (Nat.sub_le _ _)); iapply (env_lev m K); iexact He
  iintro ⟨⟨Hslot, Hsrc⟩, Hv, Ho⟩
  iapply h
  unfold St famX owesP
  isplitr [HR]
  · isplitr; · iexact He
    isplitl [Ho]; · iexists _; iexact Ho
    isplitr [Hrest]
    · iapply Hback
      isplitl [Hslot]; · iexact Hslot
      isplitl [Hv] <;> iassumption
    · iexact Hrest
  · iexact HR

/-- The load of quarter `q`, arrived. -/
theorem op_xload (q : Fin 4) (hlt : qt q < xw) {inb hl} {k : Vec F S1x256x4096 .f32 → Prog (TpuEff nD τ sig (Elt F) Λ₀ .tc) α}
    (h : iprop(St m K c xs xw xst ws ww w8 snd rcv sw os oe ow ∗ R) ⊢ WP c (k (xt m (4 * c.val + q))) Q) :
    iprop(St m K c xs xw xst ws ww w8 snd rcv sw os oe ow ∗ R)
      ⊢ WP c (.op (.load xsM (Rect.unit (s := S4x256x4096) ![(q : ℕ), 0, 0] S1x256x4096.size inb).toLoadRect hl) k) Q := by
  have ha : stX xs xw q = 2 := by unfold stX; split_ifs <;> omega
  have h' := h.trans (Entails.of_eq (congrArg (fun v => WP c (k v) Q) (xs_loaded m c q inb).symm))
  unfold St
  iintro ⟨⟨He, Ho, HX, Hrest⟩, HR⟩
  unfold famX
  ihave H := (fam_take (pX m c) q 2 2 ha ha fun _ _ => rfl) $$ HX
  icases H with ⟨Hp, Hback⟩
  simp only [pX]
  icases Hp with ⟨Hslot, Hv, Hsrc⟩
  unfold xslot
  iapply (wp_load_rect 𝒱₀ (c : Thread nD τ) none Set.univ (m := xsM) (r := Rect.unit (s := S4x256x4096) ![(q : ℕ), 0, 0] S1x256x4096.size inb) (S := slot 4 256 4096 q)
    (le_of_eq ((View.set_slice_whole cc0_scratch3 _).trans (rect_slot rfl inb)))) $$ Hslot
  iintro Hslot
  iapply h'
  unfold St famX
  isplitr [HR]
  · isplitl [He]; · iexact He
    isplitl [Ho]; · iexact Ho
    isplitr [Hrest]
    · iapply Hback
      isplitl [Hslot]; · iexact Hslot
      isplitl [Hv] <;> iassumption
    · iexact Hrest
  · iexact HR

/-- Chunk `n` of `w` sets off for slot `n % 2`, which the chunk before last has left. -/
theorem op_wstart (n : Fin 8) (hn : ws = n) (hw : (n : ℕ) ≤ ww + 1) (hw' : ww ≤ n) (p : Fin 2) (hp : (p : ℕ) = n % 2) {sem : DmaSem sig} (hsem : sem = wSem p)
    {off : Fin 2 → ℕ} (hoff : off = ![512 * (n : ℕ), 2048 * c.val]) {inb inb' hs hs' hq w1 w2 hty}
    {k : PUnit → Prog (TpuEff nD τ sig (Elt F) Λ₀ .tc) α}
    (h : iprop(St m K c xs xw xst (ws + 1) ww w8 snd rcv sw os oe ow ∗ R) ⊢ WP c (k ⟨⟩) Q) :
    iprop(St m K c xs xw xst ws ww w8 snd rcv sw os oe ow ∗ R)
      ⊢ WP c (.op (.enqueueDma (wM.slice (Rect.unit (s := S4096x8192) off S512x2048.size inb') hs')
          (.here ((wsM.slice (Rect.unit (s := S2x512x2048) ![(p : ℕ), 0, 0] S1x512x2048.size inb) hs).squeeze S512x2048 hq)) (.dma sem) w1 w2 hty) k) Q := by
  subst hsem
  have hn8 := n.isLt
  let i : Fin 10 := ⟨n, by omega⟩
  let j : Fin 10 := ⟨n + 2, by omega⟩
  have hi : (i : ℕ) = n := rfl
  have hj : (j : ℕ) = n + 2 := rfl
  -- member `n` gives up the slot, member `n + 2` takes it
  let s₁ : ℕ → ℕ := fun z => if z = n then 3 else stW ws ww z
  have h1 : stW ws ww i = 2 := by unfold stW; rw [hi]; split_ifs <;> omega
  have h1' : s₁ i = 3 := if_pos rfl
  have hr1 : ∀ y : Fin 10, (y : ℕ) ≠ i → s₁ y = stW ws ww y := fun y hy => if_neg hy
  have h2 : s₁ j = 0 := by show (if (j : ℕ) = n then 3 else stW ws ww j) = 0; rw [hj]; unfold stW; split_ifs <;> omega
  have h2' : stW (ws + 1) ww j = 1 := by unfold stW; rw [hj]; split_ifs <;> omega
  have hr2 : ∀ y : Fin 10, (y : ℕ) ≠ j → stW (ws + 1) ww y = s₁ y := fun y hy => by
    show _ = (if (y : ℕ) = n then 3 else stW ws ww y)
    rw [hj] at hy; unfold stW; split_ifs <;> omega
  have hip : (i : ℕ) % 2 = p := hp.symm
  have hjp : (j : ℕ) % 2 = p := by rw [hj, hp]; omega
  have hjn : (j : ℕ) - 2 = n := by rw [hj]; omega
  have hw2 : wsrc' m c j = wsrc m c n := by unfold wsrc'; rw [hjn, if_pos (by rw [hj]; omega)]
  unfold St
  iintro ⟨⟨He, Ho, HX, HW, Hrest⟩, HR⟩
  unfold famW
  ihave H := (fam_take (pW m c) i 2 3 h1 h1' hr1) $$ HW
  icases H with ⟨Hp, Hback⟩
  simp only [pW_2, pW_3]
  icases Hp with ⟨⟨%f, %hf, Hslot⟩, Hv, Hold⟩
  ihave HW := Hback $$ Hold
  ihave H := (fam_take (pW m c) j 0 1 h2 h2' hr2) $$ HW
  icases H with ⟨Hsrc, Hback⟩
  simp only [pW_0, pW_1, hip, hjp, hjn, hw2]
  unfold wslot wsrc
  iapply (Transfers.wp_dmaLocal countersEmb 𝒱₀ (c : Thread nD τ) none () NW rfl NW_pos (Sd := slot 2 512 2048 p) (fd := f) (fs := Wm m c)
    (q := fullShare) (le_of_eq (set_ws p inb hs hq))) $$ [Hslot Hv Hsrc]
  · isplitl [Hsrc]; · iapply (Entails.of_eq (pts_set (set_w hoff inb')).symm); iexact Hsrc
    isplitl [Hslot] <;> iassumption
  iintro HF
  iapply h
  unfold St famW
  isplitr [HR]
  · isplitl [He]; · iexact He
    isplitl [Ho]; · iexact Ho
    isplitl [HX]; · iexact HX
    isplitr [Hrest]
    · iapply Hback
      iapply (Transfers.Flight_mono countersEmb (c : Thread nD τ) (BIClass.sep_mono
        (Entails.of_eq (pointsTo_congr (ws_copied m c n hn8 p inb hs hq hoff inb' f))) (Entails.of_eq (pts_set (set_w hoff inb'))))) $$ HF
    · iexact Hrest
  · iexact HR

/-- The wait for chunk `n`. -/
theorem op_wwait (n : Fin 8) (hn : ww = n) (hlt : n < ws) (hw : ws ≤ n + 2) (p : Fin 2) (hp : (p : ℕ) = n % 2) {sem : DmaSem sig} (hsem : sem = wSem p)
    {sp sp' : Space} {s s' : Shape} {e e' : EltTy} {srcw : Memref sig .tc sp' s' e'} {dstw : Memref sig .tc sp s e} {w1 w2}
    (hN : dstw.view.dmaCredit = NW) {k : PUnit → Prog (TpuEff nD τ sig (Elt F) Λ₀ .tc) α}
    (h : iprop(St m K c xs xw xst ws (ww + 1) w8 snd rcv sw os oe ow ∗ R) ⊢ WP c (k ⟨⟩) Q) :
    iprop(St m K c xs xw xst ws ww w8 snd rcv sw os oe ow ∗ R) ⊢ WP c (.op (.waitDma2 sem srcw dstw w1 w2) k) Q := by
  subst hsem
  have hn8 := n.isLt
  let j : Fin 10 := ⟨n + 2, by omega⟩
  have hj : (j : ℕ) = n + 2 := rfl
  have h2 : stW ws ww j = 1 := by unfold stW; rw [hj]; split_ifs <;> omega
  have h2' : stW ws (ww + 1) j = 2 := by unfold stW; rw [hj]; split_ifs <;> omega
  have hr2 : ∀ y : Fin 10, (y : ℕ) ≠ j → stW ws (ww + 1) y = stW ws ww y := fun y hy => by
    rw [hj] at hy; unfold stW; split_ifs <;> omega
  have hjp : (j : ℕ) % 2 = p := by rw [hj, hp]; omega
  unfold St
  iintro ⟨⟨#He, Ho, HX, HW, Hrest⟩, HR⟩
  unfold famW
  ihave H := (fam_take (pW m c) j 1 2 h2 h2' hr2) $$ HW
  icases H with ⟨Hp, Hback⟩
  simp only [pW_1, pW_2, hjp]
  unfold owesP
  icases Ho with ⟨%W, Ho⟩
  iapply (Transfers.wp_waitLocalO countersEmb 𝒱₀ (c : Thread nD τ) none () hN (O := rem c (12 - snd)) (W := W)) $$ [Hp Ho]
  · isplitl [Hp]; · iexact Hp
    isplitl [Ho]; · iexact Ho
    iapply (mayWait_low c (wSem p) (isR_w p) (12 - snd) (Nat.sub_le _ _)); iapply (env_lev m K); iexact He
  iintro ⟨⟨Hslot, Hsrc⟩, Hv, Ho⟩
  iapply h
  unfold St famW owesP
  isplitr [HR]
  · isplitr; · iexact He
    isplitl [Ho]; · iexists _; iexact Ho
    isplitl [HX]; · iexact HX
    isplitr [Hrest]
    · iapply Hback
      isplitl [Hslot]
      · iexists _; isplitr; · ipureintro; exact fun _ => rfl
        iexact Hslot
      isplitl [Hv] <;> iassumption
    · iexact Hrest
  · iexact HR

/-- The load of chunk `n`, arrived. -/
theorem op_wload (n : Fin 8) (hlt : n < ww) (hs : n < ws) (hw : ws ≤ n + 2) (p : Fin 2) (hp : (p : ℕ) = n % 2) {inb hl}
    {k : Vec F S1x512x2048 .f32 → Prog (TpuEff nD τ sig (Elt F) Λ₀ .tc) α}
    (h : iprop(St m K c xs xw xst ws ww w8 snd rcv sw os oe ow ∗ R) ⊢ WP c (k (wt m c n)) Q) :
    iprop(St m K c xs xw xst ws ww w8 snd rcv sw os oe ow ∗ R)
      ⊢ WP c (.op (.load wsM (Rect.unit (s := S2x512x2048) ![(p : ℕ), 0, 0] S1x512x2048.size inb).toLoadRect hl) k) Q := by
  have hn8 := n.isLt
  let j : Fin 10 := ⟨n + 2, by omega⟩
  have hj : (j : ℕ) = n + 2 := rfl
  have h2 : stW ws ww j = 2 := by unfold stW; rw [hj]; split_ifs <;> omega
  have hjp : (j : ℕ) % 2 = p := by rw [hj, hp]; omega
  have hjn : (j : ℕ) - 2 = n := by rw [hj]; omega
  have h' := h.trans (Entails.of_eq (congrArg (fun v => WP c (k v) Q) (ws_loaded m c n p inb).symm))
  unfold St
  iintro ⟨⟨He, Ho, HX, HW, Hrest⟩, HR⟩
  unfold famW
  ihave H := (fam_take (pW m c) j 2 2 h2 h2 fun _ _ => rfl) $$ HW
  icases H with ⟨Hp, Hback⟩
  simp only [pW_1, pW_2, hjp, hjn]
  icases Hp with ⟨⟨%f, %hf, Hslot⟩, Hv, Hsrc⟩
  have hf' := hf (by omega)
  subst hf'
  unfold wslot
  iapply (wp_load_rect 𝒱₀ (c : Thread nD τ) none Set.univ (m := wsM) (r := Rect.unit (s := S2x512x2048) ![(p : ℕ), 0, 0] S1x512x2048.size inb) (S := slot 2 512 2048 p)
    (le_of_eq ((View.set_slice_whole cc0_scratch2 _).trans (rect_slot rfl inb)))) $$ Hslot
  iintro Hslot
  iapply h'
  unfold St famW
  isplitr [HR]
  · isplitl [He]; · iexact He
    isplitl [Ho]; · iexact Ho
    isplitl [HX]; · iexact HX
    isplitr [Hrest]
    · iapply Hback
      isplitl [Hslot]
      · iexists _; isplitr; · ipureintro; exact fun _ => rfl
        iexact Hslot
      isplitl [Hv] <;> iassumption
    · iexact Hrest
  · iexact HR

/-- A load of the eight-bit columns whose value is not used. -/
theorem op_w8dead {off : Fin 2 → ℕ} {inb hl} {k : Vec F S512x2048 .fp8e4m3 → Prog (TpuEff nD τ sig (Elt F) Λ₀ .tc) α}
    (h : ∀ v, iprop(St m K c xs xw xst ws ww w8 snd rcv sw os oe ow ∗ R) ⊢ WP c (k v) Q) :
    iprop(St m K c xs xw xst ws ww w8 snd rcv sw os oe ow ∗ R)
      ⊢ WP c (.op (.load w8M (Rect.unit (s := S4096x2048) off S512x2048.size inb).toLoadRect hl) k) Q := by
  unfold St
  iintro ⟨⟨He, Ho, HX, HW, H8, Hrest⟩, HR⟩
  unfold w8P
  icases H8 with ⟨%f, %hf, H8⟩
  iapply (wp_load_rect 𝒱₀ (c : Thread nD τ) none Set.univ (m := w8M) (r := Rect.unit (s := S4096x2048) off S512x2048.size inb) (S := Finset.univ) (Finset.subset_univ _)) $$ H8
  iintro H8
  iapply (h _)
  unfold St w8P
  isplitr [HR]
  · isplitl [He]; · iexact He
    isplitl [Ho]; · iexact Ho
    isplitl [HX]; · iexact HX
    isplitl [HW]; · iexact HW
    isplitr [Hrest]
    · iexists f; isplitr; · ipureintro; exact hf
      iexact H8
    · iexact Hrest
  · iexact HR

/-- Chunk `n`, cast, is stored in the eight-bit columns. -/
theorem op_w8store (n : ℕ) (hn : w8 = n) {off : Fin 2 → ℕ} (hoff : off = ![512 * n, 0]) {inb hx hm} {w : Vec F S512x2048 .fp8e4m3} (hw : w = k0_pay7 (wt m c n))
    {k : PUnit → Prog (TpuEff nD τ sig (Elt F) Λ₀ .tc) α}
    (h : iprop(St m K c xs xw xst ws ww (w8 + 1) snd rcv sw os oe ow ∗ R) ⊢ WP c (k ⟨⟩) Q) :
    iprop(St m K c xs xw xst ws ww w8 snd rcv sw os oe ow ∗ R)
      ⊢ WP c (.op (.store w8M (Rect.unit (s := S4096x2048) off S512x2048.size inb) w Finset.univ hx hm) k) Q := by
  subst hw hn
  unfold St
  iintro ⟨⟨He, Ho, HX, HW, H8, Hrest⟩, HR⟩
  unfold w8P
  icases H8 with ⟨%f, %hf, H8⟩
  iapply (wp_store 𝒱₀ (c : Thread nD τ) none Set.univ (m := w8M) (r := Rect.unit (s := S4096x2048) off S512x2048.size inb) (Mk := Finset.univ)
    (S := Finset.univ) (Finset.subset_univ _)) $$ H8
  iintro H8
  iapply h
  unfold St w8P
  isplitr [HR]
  · isplitl [He]; · iexact He
    isplitl [Ho]; · iexact Ho
    isplitl [HX]; · iexact HX
    isplitl [HW]; · iexact HW
    isplitr [Hrest]
    · iexists _; isplitr; · ipureintro; exact w8_stored m c w8 hoff inb f hf
      iexact H8
    · iexact Hrest
  · iexact HR

end Cert.RingMM
-- ==== Proof.OpsG.lean ====
/-
# The operations on the gathered rows: own quarters stored, slots sent on, received, confirmed, loaded
-/
module

public import proofs.«01_k».proof.Proof.State

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ)
variable {c : Dev nD} {xs xw xst ws ww w8 snd rcv sw os oe ow : ℕ} {R : sProp (MT nD τ sig Unit (Elt F) ℕ UU ℕ)} {α : Type} {Q : α → sProp (MT nD τ sig Unit (Elt F) ℕ UU ℕ)}

theorem pG_1 (c : Dev nD) (s : Fin 16) : pG m c s 1 = gpts c (blk c s) fullShare (XG m) := rfl
theorem pG_2 (c : Dev nD) (s : Fin 16) : pG m c s 2 = gpts c (blk c s) fullShare.right (XG m) := rfl
theorem pG_0 (c : Dev nD) (s : Fin 16) (h : (s : ℕ) < 4) : pG m c s 0 = iprop(∃ f, gpts c (blk c s) fullShare f) := if_pos h
theorem pG_0' (c : Dev nD) (s : Fin 16) (h : ¬ (s : ℕ) < 4) : pG m c s 0 = iprop(emp) := if_neg h

/-- A slot held whole, or half of it, can be read. -/
theorem pG_read (c : Dev nD) (s : Fin 16) (a : ℕ) (ha : a = 1 ∨ a = 2) :
    pG m c s a ⊢ iprop(∃ q, gpts c (blk c s) q (XG m) ∗ (gpts c (blk c s) q (XG m) -∗ pG m c s a)) := by
  rcases ha with rfl | rfl
  · rw [pG_1]; iintro H; iexists fullShare; isplitl [H]; · iexact H
    iintro H; iexact H
  · rw [pG_2]; iintro H; iexists fullShare.right; isplitl [H]; · iexact H
    iintro H; iexact H

/-- A load, before its store, of the place of own quarter `s`. -/
theorem op_gdead (s : Fin 4) (hle : xst ≤ s) {off : Fin 2 → ℕ} (hoff : off = ![256 * blk c s, 0]) {inb hl}
    {k : Vec F S256x4096 .fp8e4m3 → Prog (TpuEff nD τ sig (Elt F) Λ₀ .tc) α}
    (h : ∀ v, iprop(St m K c xs xw xst ws ww w8 snd rcv sw os oe ow ∗ R) ⊢ WP c (k v) Q) :
    iprop(St m K c xs xw xst ws ww w8 snd rcv sw os oe ow ∗ R)
      ⊢ WP c (.op (.load gM (Rect.unit (s := S4096x4096) off S256x4096.size inb).toLoadRect hl) k) Q := by
  let t : Fin 16 := ⟨s, by omega⟩
  have ht : (t : ℕ) = s := rfl
  have h4 := s.isLt
  have ha : stG xst rcv snd sw t = 0 := by unfold stG; rw [ht]; split_ifs <;> omega
  unfold St
  iintro ⟨⟨He, Ho, HX, HW, H8, HG, Hrest⟩, HR⟩
  unfold famG
  ihave H := (fam_take (pG m c) t 0 0 ha ha fun _ _ => rfl) $$ HG
  rw [pG_0 m c t h4]
  icases H with ⟨⟨%f, Hp⟩, Hback⟩
  unfold gpts
  iapply (wp_load_rect 𝒱₀ (c : Thread nD τ) none Set.univ (m := gM) (r := Rect.unit (s := S4096x4096) off S256x4096.size inb)
    (S := rows 4096 4096 (blk c s)) (le_of_eq (set_g hoff inb))) $$ Hp
  iintro Hp
  iapply (h _)
  unfold St famG
  isplitr [HR]
  · isplitl [He]; · iexact He
    isplitl [Ho]; · iexact Ho
    isplitl [HX]; · iexact HX
    isplitl [HW]; · iexact HW
    isplitl [H8]; · iexact H8
    isplitr [Hrest]
    · iapply Hback; iexists _; iexact Hp
    · iexact Hrest
  · iexact HR

/-- Own quarter `s` is stored. -/
theorem op_gstore (s : Fin 4) (hn : xst = s) (hsnd : snd ≤ s) {off : Fin 2 → ℕ} (hoff : off = ![256 * blk c s, 0]) {inb hx hm}
    {w : Vec F S256x4096 .fp8e4m3} (hw : w = k0_pay2 (xt m (4 * c.val + qt s)))
    {k : PUnit → Prog (TpuEff nD τ sig (Elt F) Λ₀ .tc) α}
    (h : iprop(St m K c xs xw (xst + 1) ws ww w8 snd rcv sw os oe ow ∗ R) ⊢ WP c (k ⟨⟩) Q) :
    iprop(St m K c xs xw xst ws ww w8 snd rcv sw os oe ow ∗ R)
      ⊢ WP c (.op (.store gM (Rect.unit (s := S4096x4096) off S256x4096.size inb) w Finset.univ hx hm) k) Q := by
  rw [← blk_own] at hw
  subst hw
  let t : Fin 16 := ⟨s, by omega⟩
  have ht : (t : ℕ) = s := rfl
  have h4 := s.isLt
  have ha : stG xst rcv snd sw t = 0 := by unfold stG; rw [ht]; split_ifs <;> omega
  have ha' : stG (xst + 1) rcv snd sw t = 1 := by unfold stG; rw [ht]; split_ifs <;> omega
  have hr : ∀ y : Fin 16, (y : ℕ) ≠ t → stG (xst + 1) rcv snd sw y = stG xst rcv snd sw y := fun y hy => by
    rw [ht] at hy; unfold stG; split_ifs <;> omega
  unfold St
  iintro ⟨⟨He, Ho, HX, HW, H8, HG, Hrest⟩, HR⟩
  unfold famG
  ihave H := (fam_take (pG m c) t 0 1 ha ha' hr) $$ HG
  rw [pG_0 m c t h4, pG_1]
  icases H with ⟨⟨%f, Hp⟩, Hback⟩
  unfold gpts
  iapply (wp_store 𝒱₀ (c : Thread nD τ) none Set.univ (m := gM) (r := Rect.unit (s := S4096x4096) off S256x4096.size inb) (Mk := Finset.univ)
    (S := rows 4096 4096 (blk c s)) (le_of_eq ((View.setOn_univ _).trans (set_g hoff inb)))) $$ Hp
  iintro Hp
  iapply h
  unfold St famG
  isplitr [HR]
  · isplitl [He]; · iexact He
    isplitl [Ho]; · iexact Ho
    isplitl [HX]; · iexact HX
    isplitl [HW]; · iexact HW
    isplitl [H8]; · iexact H8
    isplitr [Hrest]
    · iapply Hback; iapply (Entails.of_eq (pointsTo_congr (g_stored m hoff inb f))) $$ Hp
    · iexact Hrest
  · iexact HR

omit [FloatOps F] in
theorem rem_step (c : Dev nD) (x : Fin 12) : rem c (12 - x) = rem c (12 - (x + 1)) + tallyAt (recvCell (dst c x) x) () N := by
  have hx := x.isLt
  have e : 12 - (x : ℕ) = (11 - x) + 1 := by omega
  have e' : 12 - ((x : ℕ) + 1) = 11 - x := by omega
  have e'' : 11 - (11 - (x : ℕ)) = x := by omega
  rw [e, e', rem, e'']

theorem credit_g {off : Fin 2 → ℕ} (inb) (hs) : ((gM : Memref sig .tc .vmem S4096x4096 .fp8e4m3).slice (Rect.unit (s := S4096x4096) off S256x4096.size inb) hs).view.dmaCredit = N := rfl

omit [FloatOps F] in
theorem gpts_halves (c : Dev nD) (a : ℕ) (f) : (gpts (F := F) c a fullShare f) ⊣⊢ iprop(gpts c a fullShare.left f ∗ gpts c a fullShare.right f) :=
  pointsTo_share (PosShare.mem_left_op_right fullShare)

/-- `Rounds.wp_send_pointsTo` at transfer `x`: half of slot `x` is lent until the send is confirmed, the landing place goes with it. -/
theorem wp_send_slot (x : Fin 12) {n : Dev nD} (hdev : n = dst c x) {sS sR : DmaSem sig} (hS : sS = sSem x) (hR : sR = rSem x)
    {off : Fin 2 → ℕ} (hoff : off = ![256 * blk c x, 0]) {inb hs inb' hs' hsc w1 w2 w3}
    {k : PUnit → Prog (TpuEff nD τ sig (Elt F) Λ₀ .tc) α} (f) (W : Waits sig Unit) :
    iprop(cellInv ER (ring m) (K (c, kS x)) (sendCell c x) ∗ cellInv ER (ring m) (K (dst c x, kR x)) (recvCell (dst c x) x)
        ∗ gpts c (blk c x) fullShare.left (XG m) ∗ gpts (dst c x) (blk c x) fullShare f
        ∗ owes (c : Thread nD τ) (rem c (12 - x)) W
        ∗ dutyTok ER (sendCell c x) 0 false ∗ reached ER (sendCell c x) 0
        ∗ dutyTok ER (recvCell (dst c x) x) 0 false ∗ reached ER (recvCell (dst c x) x) 0)
      ⊢ iprop(((cred (tallyAt (sendCell c x) () N) ∗ owes (c : Thread nD τ) (rem c (12 - (x + 1))) W) -∗ WP c (k ⟨⟩) Q)
          -∗ WP c (.op (.enqueueDma (gM.slice (Rect.unit (s := S4096x4096) off S256x4096.size inb) hs)
              (.remote (Dev.tc n : Thread nD τ) ((gM : Memref sig .tc .vmem S4096x4096 .fp8e4m3).slice (Rect.unit (s := S4096x4096) off S256x4096.size inb') hs') (.dma sS) hsc)
              (.dma sR) w1 w2 w3) k) Q) := by
  subst hdev hS hR
  have e1 : ((gM.slice (Rect.unit (s := S4096x4096) off S256x4096.size inb) hs).view.loc (c : Thread nD τ)
      ↦[(gM.slice (Rect.unit (s := S4096x4096) off S256x4096.size inb) hs).view.set]{fullShare.left} (XG m) : sProp (MT nD τ sig Unit (Elt F) ℕ UU ℕ))
      = gpts c (blk c x) fullShare.left (XG m) := pts_set (set_g hoff inb)
  have e2 : ((gM.slice (Rect.unit (s := S4096x4096) off S256x4096.size inb') hs').view.loc (dst c x : Thread nD τ)
      ↦[(gM.slice (Rect.unit (s := S4096x4096) off S256x4096.size inb') hs').view.set]{fullShare} f : sProp (MT nD τ sig Unit (Elt F) ℕ UU ℕ))
      = gpts (dst c x) (blk c x) fullShare f := pts_set (set_g hoff inb')
  rw [← e1, ← e2]
  have h1 := Entails.of_eq (e1.trans (payload_send m c x false).symm)
  have h2 : ((gM.slice (Rect.unit (s := S4096x4096) off S256x4096.size inb') hs').view.loc (dst c x : Thread nD τ)
      ↦[(gM.slice (Rect.unit (s := S4096x4096) off S256x4096.size inb') hs').view.set]{fullShare}
        ((gM.slice (Rect.unit (s := S4096x4096) off S256x4096.size inb') hs').view.write (Elt F) f
          ((gM.slice (Rect.unit (s := S4096x4096) off S256x4096.size inb) hs).view.read (Elt F) (XG m)) Finset.univ) : sProp (MT nD τ sig Unit (Elt F) ℕ UU ℕ))
      ⊢ (ring m).payload (recvCell (dst c x) x) 0 false := by
    rw [payload_recv]; unfold recvPay
    rw [← blk_src, src_dst]
    exact (Entails.of_eq (pointsTo_congr (g_copied inb' f (XG m)))).trans (Entails.of_eq (pts_set (set_g hoff inb')))
  have hd1 : false ∈ (ring (F := F) m).duties (sendCell c x) 0 := by rw [duties_send]; exact Finset.mem_singleton_self _
  have hd2 : false ∈ (ring (F := F) m).duties (recvCell (dst c x) x) 0 := by rw [duties_recv]; exact Finset.mem_singleton_self _
  exact Rounds.wp_send_pointsTo (c' := (dst c x : Thread nD τ)) 𝒱₀ ER (ring m) (c : Thread nD τ) none (κ₁ := K (c, kS x)) (κ₂ := K (dst c x, kR x))
    (r₁ := 0) (r₂ := 0) (d₁ := false) (d₂ := false) (fd := f) hd1 hd2
    () () N (credit_g inb' hs') (amount_dma m c (sSem x) false) (amount_dma m (dst c x) (rSem x) false) (rem c (12 - (x + 1))) (rem_step c x) (W := W) h1 h2

/-- Transfer `x` sets off, from a slot that is here. -/
theorem op_send (x : Fin 12) (hn : snd = x) (hsw : sw ≤ x) (hh : (x : ℕ) < 4 ∧ x < xst ∨ 4 ≤ (x : ℕ) ∧ x - 4 < rcv)
    {n : Dev nD} (hdev : n = dst c x) {sS sR : DmaSem sig} (hS : sS = sSem x) (hR : sR = rSem x)
    {off : Fin 2 → ℕ} (hoff : off = ![256 * blk c x, 0]) {inb hs inb' hs' hsc w1 w2 w3}
    {k : PUnit → Prog (TpuEff nD τ sig (Elt F) Λ₀ .tc) α}
    (h : iprop(St m K c xs xw xst ws ww w8 (snd + 1) rcv sw os oe ow ∗ R) ⊢ WP c (k ⟨⟩) Q) :
    iprop(St m K c xs xw xst ws ww w8 snd rcv sw os oe ow ∗ R)
      ⊢ WP c (.op (.enqueueDma (gM.slice (Rect.unit (s := S4096x4096) off S256x4096.size inb) hs)
              (.remote (Dev.tc n : Thread nD τ) ((gM : Memref sig .tc .vmem S4096x4096 .fp8e4m3).slice (Rect.unit (s := S4096x4096) off S256x4096.size inb') hs') (.dma sS) hsc)
              (.dma sR) w1 w2 w3) k) Q := by
  subst hn
  let t : Fin 16 := ⟨x, by omega⟩
  have ht : (t : ℕ) = x := rfl
  have hg : stG xst rcv x sw t = 1 := by unfold stG; rw [ht]; split_ifs <;> omega
  have hg' : stG xst rcv (x + 1) sw t = 2 := by unfold stG; rw [ht]; split_ifs <;> omega
  have hgr : ∀ y : Fin 16, (y : ℕ) ≠ t → stG xst rcv (x + 1) sw y = stG xst rcv x sw y := fun y hy => by
    rw [ht] at hy; unfold stG; split_ifs <;> omega
  have hs0 : stS x sw x = 0 := by unfold stS; split_ifs <;> omega
  have hs1 : stS (x + 1) sw x = 1 := by unfold stS; split_ifs <;> omega
  have hsr : ∀ y : Fin 12, (y : ℕ) ≠ x → stS (x + 1) sw y = stS x sw y := fun y hy => by unfold stS; split_ifs <;> omega
  unfold St
  iintro ⟨⟨#He, Ho, HX, HW, H8, HG, HS, Hrest⟩, HR⟩
  unfold famG famS
  ihave H := (fam_take (pG m c) t 1 2 hg hg' hgr) $$ HG
  rw [pG_1, pG_2]
  icases H with ⟨Hp, HbackG⟩
  ihave Hp := (gpts_halves c (blk c x) (XG m)).1 $$ Hp
  icases Hp with ⟨Hpl, Hpr⟩
  ihave H := (fam_take (pS (F := F) c) x 0 1 hs0 hs1 hsr) $$ HS
  icases H with ⟨Hs, HbackS⟩
  simp only [pS]
  unfold land
  icases Hs with ⟨HtS, HtR, ⟨%f, Hland⟩, Hat⟩
  unfold owesP
  icases Ho with ⟨%W, Ho⟩
  iapply (wp_send_slot m K x hdev hS hR hoff f W) $$ [Hpl Hland Ho HtS HtR]
  · isplitr; · iapply (inv_send m K c x); iexact He
    isplitr; · iapply (inv_recv m K (dst c x) x); iexact He
    isplitl [Hpl]; · iexact Hpl
    isplitl [Hland]; · iexact Hland
    isplitl [Ho]; · iexact Ho
    isplitl [HtS]; · iexact HtS
    isplitr; · iapply (reached_send m K c x); iexact He
    isplitl [HtR]; · iexact HtR
    iapply (reached_recv m K (dst c x) x); iexact He
  iintro ⟨Hc, Ho⟩
  iapply h
  unfold St famG famS owesP
  isplitr [HR]
  · isplitr; · iexact He
    isplitl [Ho]; · iexists W; iexact Ho
    isplitl [HX]; · iexact HX
    isplitl [HW]; · iexact HW
    isplitl [H8]; · iexact H8
    isplitl [HbackG Hpr]; · iapply HbackG; iexact Hpr
    isplitr [Hrest]
    · iapply HbackS; isplitl [Hc] <;> iassumption
    · iexact Hrest
  · iexact HR

/-- The wait for transfer `y`, which fills slot `y + 4`. -/
theorem op_recv (y : Fin 12) (hn : rcv = y) (hlo : 4 * ((y : ℕ) / 4) + 4 ≤ snd) (hhi : snd ≤ y + 4) {sem : DmaSem sig} (hsem : sem = rSem y)
    {sp sp' : Space} {s s' : Shape} {e e' : EltTy} {srcw : Memref sig .tc sp' s' e'} {dstw : Memref sig .tc sp s e} {w1 w2}
    (hN : dstw.view.dmaCredit = N) {k : PUnit → Prog (TpuEff nD τ sig (Elt F) Λ₀ .tc) α}
    (h : iprop(St m K c xs xw xst ws ww w8 snd (rcv + 1) sw os oe ow ∗ R) ⊢ WP c (k ⟨⟩) Q) :
    iprop(St m K c xs xw xst ws ww w8 snd rcv sw os oe ow ∗ R) ⊢ WP c (.op (.waitDma2 sem srcw dstw w1 w2) k) Q := by
  subst hsem hn
  have hy := y.isLt
  let t : Fin 16 := ⟨y + 4, by omega⟩
  have ht : (t : ℕ) = y + 4 := rfl
  have hg : stG xst y snd sw t = 0 := by unfold stG; rw [ht]; split_ifs <;> omega
  have hg' : stG xst (y + 1) snd sw t = 1 := by unfold stG; rw [ht]; split_ifs <;> omega
  have hgr : ∀ z : Fin 16, (z : ℕ) ≠ t → stG xst (y + 1) snd sw z = stG xst y snd sw z := fun z hz => by
    rw [ht] at hz; unfold stG; split_ifs <;> omega
  have hs0 : stR y y = 0 := by unfold stR; split_ifs <;> omega
  have hs1 : stR (y + 1) y = 1 := by unfold stR; split_ifs <;> omega
  have hsr : ∀ z : Fin 12, (z : ℕ) ≠ y → stR (y + 1) z = stR y z := fun z hz => by unfold stR; split_ifs <;> omega
  unfold St
  iintro ⟨⟨#He, Ho, HX, HW, H8, HG, HS, HV, Hrest⟩, HR⟩
  unfold famG famR
  ihave H := (fam_take (pG m c) t 0 1 hg hg' hgr) $$ HG
  rw [pG_0' m c t (by rw [ht]; omega), pG_1]
  icases H with ⟨-, HbackG⟩
  ihave H := (fam_take (pR (F := F) c) y 0 1 hs0 hs1 hsr) $$ HV
  icases H with ⟨Hv, HbackV⟩
  simp only [pR]
  icases Hv with ⟨Hc, Hat⟩
  unfold owesP
  icases Ho with ⟨%W, Ho⟩
  iapply (Rounds.wp_wait_rest_token 𝒱₀ ER (ring m) (c : Thread nD τ) none (κ := K (c, kR y))
      (wpE_waitDma2_eq 𝒱₀ (c : Thread nD τ) none Set.univ) (Set.mem_univ _) () (O := rem c (12 - snd)) (W := W) (R := 0) (m := 0) (T := ∅)
      (by rw [Nat.zero_add, expect_recv, hN])) $$ [Hc Ho Hat]
  · isplitr; · iapply (inv_recv m K c y); iexact He
    isplitl [Hc]; · rw [hN]; iexact Hc
    isplitl [Ho]; · iexact Ho
    isplitr; · iapply (mayWait_recv c y snd hlo); iapply (env_lev m K); iexact He
    iexact Hat
  iintro ⟨Ho, Hat, -, Hpay⟩
  ihave Hp := (Entails.of_eq (rest_recv m c y)) $$ Hpay
  imod (Rounds.cell_close ER (ring m) (Set.mem_univ (K (c, kR y))) (fun h => h) (R := 0 + 1) (duties_later m (recvCell c y))) $$ [Hat] with Hz
  · isplitr; · iapply (inv_recv m K c y); iexact He
    iexact Hat
  iapply h
  unfold St famG famR owesP
  isplitr [HR]
  · isplitr; · iexact He
    isplitl [Ho]; · iexists _; iexact Ho
    isplitl [HX]; · iexact HX
    isplitl [HW]; · iexact HW
    isplitl [H8]; · iexact H8
    isplitl [HbackG Hp]; · iapply HbackG; unfold recvPay; iexact Hp
    isplitl [HS]; · iexact HS
    isplitr [Hrest]
    · iapply HbackV; iexact Hz
    · iexact Hrest
  · iexact HR

/-- The wait for transfer `x` to have read its slot: the half lent comes back. -/
theorem op_swait (x : Fin 12) (hn : sw = x) (hlt : x < snd) (hh : (x : ℕ) < 4 ∧ x < xst ∨ 4 ≤ (x : ℕ) ∧ x - 4 < rcv) {sem : DmaSem sig} (hsem : sem = sSem x)
    {sp sp' : Space} {s s' : Shape} {e e' : EltTy} {srcw : Memref sig .tc sp' s' e'} {dstw : Memref sig .tc sp s e} {w1 w2}
    (hN : dstw.view.dmaCredit = N) {k : PUnit → Prog (TpuEff nD τ sig (Elt F) Λ₀ .tc) α}
    (h : iprop(St m K c xs xw xst ws ww w8 snd rcv (sw + 1) os oe ow ∗ R) ⊢ WP c (k ⟨⟩) Q) :
    iprop(St m K c xs xw xst ws ww w8 snd rcv sw os oe ow ∗ R) ⊢ WP c (.op (.waitDma2 sem srcw dstw w1 w2) k) Q := by
  subst hsem hn
  have hy := x.isLt
  let t : Fin 16 := ⟨x, by omega⟩
  have ht : (t : ℕ) = x := rfl
  have hg : stG xst rcv snd x t = 2 := by unfold stG; rw [ht]; split_ifs <;> omega
  have hg' : stG xst rcv snd (x + 1) t = 1 := by unfold stG; rw [ht]; split_ifs <;> omega
  have hgr : ∀ z : Fin 16, (z : ℕ) ≠ t → stG xst rcv snd (x + 1) z = stG xst rcv snd x z := fun z hz => by
    rw [ht] at hz; unfold stG; split_ifs <;> omega
  have hs0 : stS snd x x = 1 := by unfold stS; split_ifs <;> omega
  have hs1 : stS snd (x + 1) x = 2 := by unfold stS; split_ifs <;> omega
  have hsr : ∀ z : Fin 12, (z : ℕ) ≠ x → stS snd (x + 1) z = stS snd x z := fun z hz => by unfold stS; split_ifs <;> omega
  unfold St
  iintro ⟨⟨#He, Ho, HX, HW, H8, HG, HS, Hrest⟩, HR⟩
  unfold famG famS
  ihave H := (fam_take (pG m c) t 2 1 hg hg' hgr) $$ HG
  rw [pG_1, pG_2]
  icases H with ⟨Hpr, HbackG⟩
  ihave H := (fam_take (pS (F := F) c) x 1 2 hs0 hs1 hsr) $$ HS
  icases H with ⟨Hv, HbackS⟩
  simp only [pS]
  icases Hv with ⟨Hc, Hat⟩
  unfold owesP
  icases Ho with ⟨%W, Ho⟩
  iapply (Rounds.wp_wait_rest_token 𝒱₀ ER (ring m) (c : Thread nD τ) none (κ := K (c, kS x))
      (wpE_waitDma2_eq 𝒱₀ (c : Thread nD τ) none Set.univ) (Set.mem_univ _) () (O := rem c (12 - snd)) (W := W) (R := 0) (m := 0) (T := ∅)
      (by rw [Nat.zero_add, expect_send, hN])) $$ [Hc Ho Hat]
  · isplitr; · iapply (inv_send m K c x); iexact He
    isplitl [Hc]; · rw [hN]; iexact Hc
    isplitl [Ho]; · iexact Ho
    isplitr; · iapply (mayWait_low c (sSem x) (isR_s x) (12 - snd) (Nat.sub_le _ _)); iapply (env_lev m K); iexact He
    iexact Hat
  iintro ⟨Ho, Hat, -, Hpay⟩
  ihave Hp := (Entails.of_eq (rest_send m c x)) $$ Hpay
  imod (Rounds.cell_close ER (ring m) (Set.mem_univ (K (c, kS x))) (fun h => h) (R := 0 + 1) (duties_later m (sendCell c x))) $$ [Hat] with Hz
  · isplitr; · iapply (inv_send m K c x); iexact He
    iexact Hat
  iapply h
  unfold St famG famS owesP
  isplitr [HR]
  · isplitr; · iexact He
    isplitl [Ho]; · iexists _; iexact Ho
    isplitl [HX]; · iexact HX
    isplitl [HW]; · iexact HW
    isplitl [H8]; · iexact H8
    isplitl [HbackG Hp Hpr]
    · iapply HbackG
      iapply (gpts_halves c (blk c x) (XG m)).2
      isplitl [Hp]; · unfold sendPay; iexact Hp
      iexact Hpr
    isplitr [Hrest]
    · iapply HbackS; iexact Hz
    · iexact Hrest
  · iexact HR

/-- The load of slot `s`, which is here. -/
theorem op_gload (s : Fin 16) (hh : (s : ℕ) < 4 ∧ s < xst ∨ 4 ≤ (s : ℕ) ∧ s - 4 < rcv) {off : Fin 2 → ℕ} (hoff : off = ![256 * blk c s, 0]) {inb hl}
    {k : Vec F S256x4096 .fp8e4m3 → Prog (TpuEff nD τ sig (Elt F) Λ₀ .tc) α}
    (h : iprop(St m K c xs xw xst ws ww w8 snd rcv sw os oe ow ∗ R) ⊢ WP c (k (xrows m (blk c s))) Q) :
    iprop(St m K c xs xw xst ws ww w8 snd rcv sw os oe ow ∗ R)
      ⊢ WP c (.op (.load gM (Rect.unit (s := S4096x4096) off S256x4096.size inb).toLoadRect hl) k) Q := by
  have h' := h.trans (Entails.of_eq (congrArg (fun v => WP c (k v) Q) (g_loaded m (blk_lt c s) hoff inb).symm))
  have ha : stG xst rcv snd sw s = 1 ∨ stG xst rcv snd sw s = 2 := by unfold stG; split_ifs <;> omega
  unfold St
  iintro ⟨⟨He, Ho, HX, HW, H8, HG, Hrest⟩, HR⟩
  unfold famG
  ihave H := (fam_take (pG m c) s _ _ rfl rfl fun _ _ => rfl) $$ HG
  icases H with ⟨Hp, Hback⟩
  ihave Hp := (pG_read m c s _ ha) $$ Hp
  icases Hp with ⟨%q, Hp, Hq⟩
  unfold gpts
  iapply (wp_load_rect 𝒱₀ (c : Thread nD τ) none Set.univ (m := gM) (r := Rect.unit (s := S4096x4096) off S256x4096.size inb)
    (S := rows 4096 4096 (blk c s)) (le_of_eq (set_g hoff inb))) $$ Hp
  iintro Hp
  iapply h'
  unfold St famG
  isplitr [HR]
  · isplitl [He]; · iexact He
    isplitl [Ho]; · iexact Ho
    isplitl [HX]; · iexact HX
    isplitl [HW]; · iexact HW
    isplitl [H8]; · iexact H8
    isplitr [Hrest]
    · iapply Hback; iapply Hq; iexact Hp
    · iexact Hrest
  · iexact HR

end Cert.RingMM
-- ==== Proof.OpsO.lean ====
/-
# The operations on the result's blocks: computed, staged, copied out
-/
module

public import proofs.«01_k».proof.Proof.State

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ)
variable {c : Dev nD} {xs xw xst ws ww w8 snd rcv sw os oe ow : ℕ} {R : sProp (MT nD τ sig Unit (Elt F) ℕ UU ℕ)} {α : Type} {Q : α → sProp (MT nD τ sig Unit (Elt F) ℕ UU ℕ)}

theorem pO_0 (c : Dev nD) (i : Fin 18) (h : 2 ≤ (i : ℕ)) : pO m c i 0 = iprop(∃ f, odst c (ob c i) f) := if_pos h
theorem pO_1 (c : Dev nD) (i : Fin 18) : pO m c i 1
    = iprop((∃ f, odst c (ob c i) f) ∗ semVal ((c : Thread nD τ), .dma (oSem (i % 2))) 0 ∗ oslot c (i % 2) (OS m c (ob c i))) := rfl
theorem pO_2 (c : Dev nD) (i : Fin 18) : pO m c i 2
    = Transfers.Flight countersEmb (c : Thread nD τ) (.dma (oSem (i % 2))) () NO iprop(odst c (ob c i) (OUT m c) ∗ oslot c (i % 2) (OS m c (ob c i))) := rfl
theorem pO_3 (c : Dev nD) (i : Fin 18) : pO m c i 3
    = iprop(odone m c i ∗ semVal ((c : Thread nD τ), .dma (oSem (i % 2))) 0 ∗ ∃ f, oslot c (i % 2) f) := rfl
theorem pO_4 (c : Dev nD) (i : Fin 18) : pO m c i 4 = odone m c i := rfl

/-- The load of the eight-bit columns, all stored. -/
theorem op_w8load (hn : w8 = 8) {inb hl} {k : Vec F S4096x2048 .fp8e4m3 → Prog (TpuEff nD τ sig (Elt F) Λ₀ .tc) α}
    (h : iprop(St m K c xs xw xst ws ww w8 snd rcv sw os oe ow ∗ R) ⊢ WP c (k (W8 m c)) Q) :
    iprop(St m K c xs xw xst ws ww w8 snd rcv sw os oe ow ∗ R)
      ⊢ WP c (.op (.load w8M (Rect.unit (s := S4096x2048) ![0, 0] S4096x2048.size inb).toLoadRect hl) k) Q := by
  have hz : (![0, 0] : Fin 2 → ℕ) = fun _ => 0 := by funext a; fin_cases a <;> rfl
  have e : ((w8M.access (Rect.unit (s := S4096x2048) ![0, 0] S4096x2048.size inb)).read (Elt F) (W8 m c) : S4096x2048.Idx → Elt F .fp8e4m3) = W8 m c :=
    Memref.readAt_unit_zero (Elt F) cc0_scratch1 hz inb (W8 m c)
  have h' := h.trans (Entails.of_eq (congrArg (fun v => WP c (k v) Q) e.symm))
  subst hn
  unfold St
  iintro ⟨⟨He, Ho, HX, HW, H8, Hrest⟩, HR⟩
  unfold w8P
  icases H8 with ⟨%f, %hf, H8⟩
  have hf' : f = W8 m c := funext fun i => hf i (i 0).isLt
  subst hf'
  iapply (wp_load_rect 𝒱₀ (c : Thread nD τ) none Set.univ (m := w8M) (r := Rect.unit (s := S4096x2048) ![0, 0] S4096x2048.size inb) (S := Finset.univ) (Finset.subset_univ _)) $$ H8
  iintro H8
  iapply h'
  unfold St w8P
  isplitr [HR]
  · isplitl [He]; · iexact He
    isplitl [Ho]; · iexact Ho
    isplitl [HX]; · iexact HX
    isplitl [HW]; · iexact HW
    isplitr [Hrest]
    · iexists _; isplitr; · ipureintro; exact hf
      iexact H8
    · iexact Hrest
  · iexact HR

/-- A load, before its store, of the staging slot of the `n`-th block. -/
theorem op_odead (n : Fin 16) (hn : os = n) (he : (n : ℕ) ≤ oe + 1) (hw : (n : ℕ) ≤ ow + 1) (p : Fin 2) (hp : (p : ℕ) = n % 2) {inb hl}
    {k : Vec F S1x256x2048 .f32 → Prog (TpuEff nD τ sig (Elt F) Λ₀ .tc) α}
    (h : ∀ v, iprop(St m K c xs xw xst ws ww w8 snd rcv sw os oe ow ∗ R) ⊢ WP c (k v) Q) :
    iprop(St m K c xs xw xst ws ww w8 snd rcv sw os oe ow ∗ R)
      ⊢ WP c (.op (.load stM (Rect.unit (s := S2x256x2048) ![(p : ℕ), 0, 0] S1x256x2048.size inb).toLoadRect hl) k) Q := by
  have hn16 := n.isLt
  let i : Fin 18 := ⟨n, by omega⟩
  have hi : (i : ℕ) = n := rfl
  have h1 : stO os oe ow i = 3 := by unfold stO; rw [hi]; split_ifs <;> omega
  have hip : (i : ℕ) % 2 = p := hp.symm
  unfold St
  iintro ⟨⟨He, Ho, HX, HW, H8, HG, HS, HV, HO⟩, HR⟩
  unfold famO
  ihave H := (fam_take (pO m c) i 3 3 h1 h1 fun _ _ => rfl) $$ HO
  simp only [pO_3, hip]
  icases H with ⟨⟨Hd, Hv, ⟨%f, Hslot⟩⟩, Hback⟩
  unfold oslot
  iapply (wp_load_rect 𝒱₀ (c : Thread nD τ) none Set.univ (m := stM) (r := Rect.unit (s := S2x256x2048) ![(p : ℕ), 0, 0] S1x256x2048.size inb)
    (S := slot 2 256 2048 p) (le_of_eq ((View.set_slice_whole cc0_scratch4 _).trans (rect_slot rfl inb)))) $$ Hslot
  iintro Hslot
  iapply (h _)
  unfold St famO
  isplitr [HR]
  · isplitl [He]; · iexact He
    isplitl [Ho]; · iexact Ho
    isplitl [HX]; · iexact HX
    isplitl [HW]; · iexact HW
    isplitl [H8]; · iexact H8
    isplitl [HG]; · iexact HG
    isplitl [HS]; · iexact HS
    isplitl [HV]; · iexact HV
    iapply Hback
    isplitl [Hd]; · iexact Hd
    isplitl [Hv]; · iexact Hv
    iexists _; iexact Hslot
  · iexact HR

/-- The `n`-th block is staged. -/
theorem op_ostore (n : Fin 16) (hn : os = n) (he : (n : ℕ) ≤ oe + 1) (hw : (n : ℕ) ≤ ow + 1) (he' : oe ≤ n) (p : Fin 2) (hp : (p : ℕ) = n % 2) {inb hx hm}
    {w : Vec F S1x256x2048 .f32} (hv : w = ot m c (blk c (ord n)))
    {k : PUnit → Prog (TpuEff nD τ sig (Elt F) Λ₀ .tc) α}
    (h : iprop(St m K c xs xw xst ws ww w8 snd rcv sw (os + 1) oe ow ∗ R) ⊢ WP c (k ⟨⟩) Q) :
    iprop(St m K c xs xw xst ws ww w8 snd rcv sw os oe ow ∗ R)
      ⊢ WP c (.op (.store stM (Rect.unit (s := S2x256x2048) ![(p : ℕ), 0, 0] S1x256x2048.size inb) w Finset.univ hx hm) k) Q := by
  subst hv
  have hn16 := n.isLt
  let i : Fin 18 := ⟨n, by omega⟩
  let j : Fin 18 := ⟨n + 2, by omega⟩
  have hi : (i : ℕ) = n := rfl
  have hj : (j : ℕ) = n + 2 := rfl
  -- member `n` gives up the slot, member `n + 2` takes it
  let s₁ : ℕ → ℕ := fun z => if z = n then 4 else stO os oe ow z
  have h1 : stO os oe ow i = 3 := by unfold stO; rw [hi]; split_ifs <;> omega
  have h1' : s₁ i = 4 := if_pos rfl
  have hr1 : ∀ y : Fin 18, (y : ℕ) ≠ i → s₁ y = stO os oe ow y := fun y hy => if_neg hy
  have h2 : s₁ j = 0 := by show (if (j : ℕ) = n then 4 else stO os oe ow j) = 0; rw [hj]; unfold stO; split_ifs <;> omega
  have h2' : stO (os + 1) oe ow j = 1 := by unfold stO; rw [hj]; split_ifs <;> omega
  have hr2 : ∀ y : Fin 18, (y : ℕ) ≠ j → stO (os + 1) oe ow y = s₁ y := fun y hy => by
    show _ = (if (y : ℕ) = n then 4 else stO os oe ow y)
    rw [hj] at hy; unfold stO; split_ifs <;> omega
  have hip : (i : ℕ) % 2 = p := hp.symm
  have hjp : (j : ℕ) % 2 = p := by rw [hj, hp]; omega
  have hjn : ob c j = blk c (ord n) := by unfold ob; rw [hj, Nat.add_sub_cancel]
  unfold St
  iintro ⟨⟨He, Ho, HX, HW, H8, HG, HS, HV, HO⟩, HR⟩
  unfold famO
  ihave H := (fam_take (pO m c) i 3 4 h1 h1' hr1) $$ HO
  icases H with ⟨Hp, Hback⟩
  simp only [pO_3, pO_4, hip]
  icases Hp with ⟨Hd, Hv, ⟨%f, Hslot⟩⟩
  ihave HO := Hback $$ Hd
  ihave H := (fam_take (pO m c) j 0 1 h2 h2' hr2) $$ HO
  icases H with ⟨Hdst, Hback⟩
  have hj2 : 2 ≤ (j : ℕ) := by rw [hj]; omega
  simp only [pO_0 m c j hj2, pO_1, hjp, hjn]
  unfold oslot
  iapply (wp_store 𝒱₀ (c : Thread nD τ) none Set.univ (m := stM) (r := Rect.unit (s := S2x256x2048) ![(p : ℕ), 0, 0] S1x256x2048.size inb) (Mk := Finset.univ)
    (S := slot 2 256 2048 p) (le_of_eq ((View.setOn_univ _).trans ((View.set_slice_whole cc0_scratch4 _).trans (rect_slot rfl inb))))) $$ Hslot
  iintro Hslot
  iapply h
  unfold St famO
  isplitr [HR]
  · isplitl [He]; · iexact He
    isplitl [Ho]; · iexact Ho
    isplitl [HX]; · iexact HX
    isplitl [HW]; · iexact HW
    isplitl [H8]; · iexact H8
    isplitl [HG]; · iexact HG
    isplitl [HS]; · iexact HS
    isplitl [HV]; · iexact HV
    iapply Hback
    isplitl [Hdst]; · iexact Hdst
    isplitl [Hv]; · iexact Hv
    iapply (Entails.of_eq (pointsTo_congr (st_stored m c (blk c (ord n)) p inb f))) $$ Hslot
  · iexact HR

theorem credit_o {off : Fin 2 → ℕ} (inb) (hs) (q : DmaSem sig) :
    ((oM : Memref sig .tc .hbm S4096x2048 .f32).slice (Rect.unit (s := S4096x2048) off S256x2048.size inb) hs).view.amount (.dma q) = NO := rfl

/-- The `n`-th block sets off for its array. -/
theorem op_ostart (n : Fin 16) (hn : oe = n) (hlt : n < os) (hw : ow ≤ n) (p : Fin 2) (hp : (p : ℕ) = n % 2) {sem : DmaSem sig} (hsem : sem = oSem p)
    {off : Fin 2 → ℕ} (hoff : off = ![256 * blk c (ord n), 0]) {inb inb' hs hs' hq w1 w2 hty}
    {k : PUnit → Prog (TpuEff nD τ sig (Elt F) Λ₀ .tc) α}
    (h : iprop(St m K c xs xw xst ws ww w8 snd rcv sw os (oe + 1) ow ∗ R) ⊢ WP c (k ⟨⟩) Q) :
    iprop(St m K c xs xw xst ws ww w8 snd rcv sw os oe ow ∗ R)
      ⊢ WP c (.op (.enqueueDma ((stM.slice (Rect.unit (s := S2x256x2048) ![(p : ℕ), 0, 0] S1x256x2048.size inb) hs).squeeze S256x2048 hq)
          (.here (oM.slice (Rect.unit (s := S4096x2048) off S256x2048.size inb') hs')) (.dma sem) w1 w2 hty) k) Q := by
  subst hsem
  have hn16 := n.isLt
  let j : Fin 18 := ⟨n + 2, by omega⟩
  have hj : (j : ℕ) = n + 2 := rfl
  have h2 : stO os oe ow j = 1 := by unfold stO; rw [hj]; split_ifs <;> omega
  have h2' : stO os (oe + 1) ow j = 2 := by unfold stO; rw [hj]; split_ifs <;> omega
  have hr2 : ∀ y : Fin 18, (y : ℕ) ≠ j → stO os (oe + 1) ow y = stO os oe ow y := fun y hy => by
    rw [hj] at hy; unfold stO; split_ifs <;> omega
  have hjp : (j : ℕ) % 2 = p := by rw [hj, hp]; omega
  have hjn : ob c j = blk c (ord n) := by unfold ob; rw [hj, Nat.add_sub_cancel]
  unfold St
  iintro ⟨⟨He, Ho, HX, HW, H8, HG, HS, HV, HO⟩, HR⟩
  unfold famO
  ihave H := (fam_take (pO m c) j 1 2 h2 h2' hr2) $$ HO
  icases H with ⟨Hp, Hback⟩
  simp only [pO_1, pO_2, hjp, hjn]
  icases Hp with ⟨⟨%f, Hdst⟩, Hv, Hslot⟩
  unfold oslot odst
  iapply (Transfers.wp_dmaLocal countersEmb 𝒱₀ (c : Thread nD τ) none () NO (credit_o inb' hs' _) NO_pos (Sd := rows 4096 2048 (blk c (ord n))) (fd := f)
    (fs := OS m c (blk c (ord n))) (q := fullShare) (le_of_eq (set_o hoff inb'))) $$ [Hslot Hv Hdst]
  · isplitl [Hslot]; · iapply (Entails.of_eq (pts_set (set_st p inb hs hq)).symm); iexact Hslot
    isplitl [Hdst] <;> iassumption
  iintro HF
  iapply h
  unfold St famO
  isplitr [HR]
  · isplitl [He]; · iexact He
    isplitl [Ho]; · iexact Ho
    isplitl [HX]; · iexact HX
    isplitl [HW]; · iexact HW
    isplitl [H8]; · iexact H8
    isplitl [HG]; · iexact HG
    isplitl [HS]; · iexact HS
    isplitl [HV]; · iexact HV
    iapply Hback
    iapply (Transfers.Flight_mono countersEmb (c : Thread nD τ) (BIClass.sep_mono
      (Entails.of_eq (pointsTo_congr (o_copied m c p inb hs hq hoff inb' f))) (Entails.of_eq (pts_set (set_st p inb hs hq))))) $$ HF
  · iexact HR

/-- The wait for the `n`-th block's copy. -/
theorem op_owait (n : Fin 16) (hn : ow = n) (hlt : n < oe) (hlt' : n < os) (hs : os ≤ n + 2) (p : Fin 2) (hp : (p : ℕ) = n % 2) {sem : DmaSem sig} (hsem : sem = oSem p)
    {sp sp' : Space} {s s' : Shape} {e e' : EltTy} {srcw : Memref sig .tc sp' s' e'} {dstw : Memref sig .tc sp s e} {w1 w2}
    (hN : dstw.view.dmaCredit = NO) {k : PUnit → Prog (TpuEff nD τ sig (Elt F) Λ₀ .tc) α}
    (h : iprop(St m K c xs xw xst ws ww w8 snd rcv sw os oe (ow + 1) ∗ R) ⊢ WP c (k ⟨⟩) Q) :
    iprop(St m K c xs xw xst ws ww w8 snd rcv sw os oe ow ∗ R) ⊢ WP c (.op (.waitDma2 sem srcw dstw w1 w2) k) Q := by
  subst hsem
  have hn16 := n.isLt
  let j : Fin 18 := ⟨n + 2, by omega⟩
  have hj : (j : ℕ) = n + 2 := rfl
  have h2 : stO os oe ow j = 2 := by unfold stO; rw [hj]; split_ifs <;> omega
  have h2' : stO os oe (ow + 1) j = 3 := by unfold stO; rw [hj]; split_ifs <;> omega
  have hr2 : ∀ y : Fin 18, (y : ℕ) ≠ j → stO os oe (ow + 1) y = stO os oe ow y := fun y hy => by
    rw [hj] at hy; unfold stO; split_ifs <;> omega
  have hjp : (j : ℕ) % 2 = p := by rw [hj, hp]; omega
  have hod : odone m c j = odst c (ob c j) (OUT m c) := if_pos (by rw [hj]; omega)
  unfold St
  iintro ⟨⟨#He, Ho, HX, HW, H8, HG, HS, HV, HO⟩, HR⟩
  unfold famO
  ihave H := (fam_take (pO m c) j 2 3 h2 h2' hr2) $$ HO
  icases H with ⟨Hp, Hback⟩
  simp only [pO_2, pO_3, hjp, hod]
  unfold owesP
  icases Ho with ⟨%W, Ho⟩
  iapply (Transfers.wp_waitLocalO countersEmb 𝒱₀ (c : Thread nD τ) none () hN (O := rem c (12 - snd)) (W := W)) $$ [Hp Ho]
  · isplitl [Hp]; · iexact Hp
    isplitl [Ho]; · iexact Ho
    iapply (mayWait_low c (oSem p) (isR_o p) (12 - snd) (Nat.sub_le _ _)); iapply (env_lev m K); iexact He
  iintro ⟨⟨Hdst, Hslot⟩, Hv, Ho⟩
  iapply h
  unfold St famO owesP
  isplitr [HR]
  · isplitr; · iexact He
    isplitl [Ho]; · iexists _; iexact Ho
    isplitl [HX]; · iexact HX
    isplitl [HW]; · iexact HW
    isplitl [H8]; · iexact H8
    isplitl [HG]; · iexact HG
    isplitl [HS]; · iexact HS
    isplitl [HV]; · iexact HV
    iapply Hback
    isplitl [Hdst]; · iexact Hdst
    isplitl [Hv]; · iexact Hv
    iexists _; iexact Hslot
  · iexact HR

end Cert.RingMM
-- ==== Proof.Offs.lean ====
/-
# Offsets in terms of slots
-/
module

public import proofs.«01_k».proof.Proof.OpsX
public import proofs.«01_k».proof.Proof.OpsG
public import proofs.«01_k».proof.Proof.OpsO

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which slot's block an offset is -/

theorem rowsEq {a b : ℕ} (h : a = b) : (![a, 0] : Fin 2 → ℕ) = ![b, 0] := by rw [h]

theorem off3_at (c : Dev nD) (r : Fin 4) (s : ℕ) (h : ∀ d : Dev nD, 1024 * d.val + 256 * r.val = 256 * blk d s) :
    k0_off3 c (BitVec.ofNat 32 (256 * r.val)) = ![256 * blk c s, 0] := (k0_off3_eq c r).trans (rowsEq (h c))
theorem off12_at (c : Dev nD) (r : Fin 4) (s : ℕ) (h : ∀ d : Dev nD, 1024 * d.val + 256 * r.val = 256 * blk d s) :
    k0_off12 c (BitVec.ofNat 32 (256 * r.val)) = ![256 * blk c s, 0] := (k0_off12_eq c r).trans (rowsEq (h c))
theorem off4_at (c : Dev nD) (a : Fin 3) (b : Fin 2) (s : ℕ) (h : ∀ d : Dev nD, 1024 * ((d.val + a.val + 2) % 4) + 256 * b.val = 256 * blk d s) :
    k0_off4 c (BitVec.ofNat 32 (2 + a.val)) (BitVec.ofNat 32 (256 * b.val)) = ![256 * blk c s, 0] := (k0_off4_eq c a b).trans (rowsEq (h c))
theorem off5_at (c : Dev nD) (a : Fin 3) (b : Fin 2) (s : ℕ) (h : ∀ d : Dev nD, 1024 * ((d.val + a.val) % 4) + 256 * b.val + 512 = 256 * blk d s) :
    k0_off5 c (BitVec.ofNat 32 a.val) (BitVec.ofNat 32 (256 * b.val)) = ![256 * blk c s, 0] := (k0_off5_eq c a b).trans (rowsEq (h c))
theorem off13_at (c : Dev nD) (a : Fin 3) (b : Fin 4) (s : ℕ) (h : ∀ d : Dev nD, 1024 * ((d.val + a.val + 1) % 4) + 256 * b.val = 256 * blk d s) :
    k0_off13 c (BitVec.ofNat 32 (1 + a.val)) (BitVec.ofNat 32 (256 * b.val)) = ![256 * blk c s, 0] := (k0_off13_eq c a b).trans (rowsEq (h c))
theorem off14_at (c : Dev nD) (a : Fin 3) (b : Fin 4) (s : ℕ) (h : ∀ d : Dev nD, 1024 * ((d.val + a.val + 1) % 4) + 256 * b.val = 256 * blk d s) :
    k0_off14 c (BitVec.ofNat 32 (1 + a.val)) (BitVec.ofNat 32 (256 * b.val)) = ![256 * blk c s, 0] := (k0_off14_eq c a b).trans (rowsEq (h c))

end Cert.RingMM
-- ==== Proof.PartsA.lean ====
/-
# The run of the body, parts 2 to 8
-/
module

public import proofs.«01_k».proof.Proof.Offs

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ)
variable {c : Dev nD} {R : sProp (MT nD τ sig Unit (Elt F) ℕ UU ℕ)} {α : Type} {Q : α → sProp (MT nD τ sig Unit (Elt F) ℕ UU ℕ)}

theorem part2_run {v2 : BitVec 32} {k : (PUnit) → Prog (TpuEff nD τ sig (Elt F) Λ₀ .tc) α}
    (h : iprop(St m K c 4 0 0 2 0 0 0 0 0 0 0 0 ∗ R) ⊢ WP c (k ⟨⟩) Q) :
    iprop(St m K c 2 0 0 0 0 0 0 0 0 0 0 0 ∗ R) ⊢ WP c (k0_part2 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 >>= k) Q := by
  simp only [k0_part2_eq_skeleton]; unfold k0_part2_skel
  simp only [Prog.lift, Prog.bind_op, Prog.bind_ret, Prog.pure_eq_ret]
  refine op_xstart m K (2 : Fin 4) rfl (by decide) rfl rfl ?_
  refine op_xstart m K (3 : Fin 4) rfl (by decide) rfl rfl ?_
  refine op_wstart m K (0 : Fin 8) rfl (by decide) (by decide) (0 : Fin 2) rfl rfl (k0_off1_eq c) ?_
  refine op_wstart m K (1 : Fin 8) rfl (by decide) (by decide) (1 : Fin 2) rfl rfl (k0_off2_eq c) ?_
  exact h

theorem part3_run {v2 v6 : BitVec 32} {k : (Σ' (v80 : FVec F S256x4096 .fp8e4m3), BitVec 32) → Prog (TpuEff nD τ sig (Elt F) Λ₀ .tc) α}
    (h : ∀ b1 : BitVec 32, iprop(St m K c 4 2 1 2 0 0 1 0 0 0 0 0 ∗ R) ⊢ WP c (k ⟨(k0_pay3 (xt m (4 * c.val + 2))), b1⟩) Q) :
    iprop(St m K c 4 0 0 2 0 0 0 0 0 0 0 0 ∗ R) ⊢ WP c (k0_part3 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v6 >>= k) Q := by
  simp only [k0_part3_eq_skeleton]; unfold k0_part3_skel
  simp only [Prog.lift, Prog.bind_op, Prog.bind_ret, Prog.pure_eq_ret]
  refine op_xwait m K (0 : Fin 4) rfl (by decide) (by decide) (by rfl) (by rfl) ?_
  refine op_xload m K (0 : Fin 4) (by decide) ?_
  refine op_gdead m K (0 : Fin 4) (by decide) (off3_at c 0 0 (by decide)) fun _ => ?_
  refine op_gstore m K (0 : Fin 4) rfl (by decide) (off3_at c 0 0 (by decide)) rfl ?_
  refine op_send m K (0 : Fin 12) rfl (by decide) (by decide) (Fin.ext (k0_dev3_eq c)) rfl rfl (off4_at c 2 0 0 (by decide)) ?_
  refine op_xwait m K (2 : Fin 4) rfl (by decide) (by decide) (by rfl) (by rfl) ?_
  refine op_xload m K (2 : Fin 4) (by decide) ?_
  exact h _

theorem part4_run {v2 v4 v81 : BitVec 32} {k : (FVec F S256x4096 .fp8e4m3) → Prog (TpuEff nD τ sig (Elt F) Λ₀ .tc) α}
    (h : iprop(St m K c 4 3 2 2 0 0 2 0 0 0 0 0 ∗ R) ⊢ WP c (k (k0_pay5 (xt m (4 * c.val + 1)))) Q) :
    iprop(St m K c 4 2 1 2 0 0 1 0 0 0 0 0 ∗ R) ⊢ WP c (k0_part4 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v4 (k0_pay3 (xt m (4 * c.val + 2))) v81 >>= k) Q := by
  simp only [k0_part4_eq_skeleton]; unfold k0_part4_skel
  simp only [Prog.lift, Prog.bind_op, Prog.bind_ret, Prog.pure_eq_ret]
  refine op_gdead m K (1 : Fin 4) (by decide) (off3_at c 2 1 (by decide)) fun _ => ?_
  refine op_gstore m K (1 : Fin 4) rfl (by decide) (off3_at c 2 1 (by decide)) (pay4 _) ?_
  refine op_send m K (1 : Fin 12) rfl (by decide) (by decide) (Fin.ext (k0_dev4_eq c)) rfl rfl (off5_at c 0 0 1 (by decide)) ?_
  refine op_xwait m K (1 : Fin 4) rfl (by decide) (by decide) (by rfl) (by rfl) ?_
  refine op_xload m K (1 : Fin 4) (by decide) ?_
  refine op_gdead m K (2 : Fin 4) (by decide) (off3_at c 1 2 (by decide)) fun _ => ?_
  exact h

theorem part5_run {v2 v6 : BitVec 32} {k : (BitVec 32) → Prog (TpuEff nD τ sig (Elt F) Λ₀ .tc) α}
    (h : ∀ b1 : BitVec 32, iprop(St m K c 4 4 4 2 0 0 3 0 0 0 0 0 ∗ R) ⊢ WP c (k b1) Q) :
    iprop(St m K c 4 3 2 2 0 0 2 0 0 0 0 0 ∗ R) ⊢ WP c (k0_part5 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v6 (k0_pay5 (xt m (4 * c.val + 1))) >>= k) Q := by
  simp only [k0_part5_eq_skeleton]; unfold k0_part5_skel
  simp only [Prog.lift, Prog.bind_op, Prog.bind_ret, Prog.pure_eq_ret]
  refine op_gstore m K (2 : Fin 4) rfl (by decide) (off3_at c 1 2 (by decide)) (pay5 _) ?_
  refine op_send m K (2 : Fin 12) rfl (by decide) (by decide) (Fin.ext (k0_dev5_eq c)) rfl rfl (off4_at c 2 1 2 (by decide)) ?_
  refine op_xwait m K (3 : Fin 4) rfl (by decide) (by decide) (by rfl) (by rfl) ?_
  refine op_xload m K (3 : Fin 4) (by decide) ?_
  refine op_gdead m K (3 : Fin 4) (by decide) (off3_at c 3 3 (by decide)) fun _ => ?_
  refine op_gstore m K (3 : Fin 4) rfl (by decide) (off3_at c 3 3 (by decide)) (pay6 _) ?_
  exact h _

theorem part6_run {v2 v4 v143 : BitVec 32} {k : (Σ' (v154 : BitVec 32) (v156 : BitVec 32), BitVec 32) → Prog (TpuEff nD τ sig (Elt F) Λ₀ .tc) α}
    (h : ∀ b1 b2 b3 : BitVec 32, iprop(St m K c 4 4 4 2 1 1 4 0 0 0 0 0 ∗ R) ⊢ WP c (k ⟨b1, b2, b3⟩) Q) :
    iprop(St m K c 4 4 4 2 0 0 3 0 0 0 0 0 ∗ R) ⊢ WP c (k0_part6 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v4 v143 >>= k) Q := by
  simp only [k0_part6_eq_skeleton]; unfold k0_part6_skel
  simp only [Prog.lift, Prog.bind_op, Prog.bind_ret, Prog.pure_eq_ret]
  refine op_send m K (3 : Fin 12) rfl (by decide) (by decide) (Fin.ext (k0_dev6_eq c)) rfl rfl (off5_at c 0 1 3 (by decide)) ?_
  refine op_wwait m K (0 : Fin 8) rfl (by decide) (by decide) (0 : Fin 2) rfl (by rfl) (by rfl) ?_
  refine op_wload m K (0 : Fin 8) (by decide) (by decide) (by decide) (0 : Fin 2) rfl ?_
  refine op_w8dead m K fun _ => ?_
  refine op_w8store m K 0 rfl rfl rfl ?_
  exact h _ _ _

theorem part7_run {v2 : BitVec 32} {k : (FVec F S512x2048 .fp8e4m3) → Prog (TpuEff nD τ sig (Elt F) Λ₀ .tc) α}
    (h : iprop(St m K c 4 4 4 4 3 2 4 0 0 0 0 0 ∗ R) ⊢ WP c (k (k0_pay9 (wt m c 2))) Q) :
    iprop(St m K c 4 4 4 2 1 1 4 0 0 0 0 0 ∗ R) ⊢ WP c (k0_part7 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 >>= k) Q := by
  simp only [k0_part7_eq_skeleton]; unfold k0_part7_skel
  simp only [Prog.lift, Prog.bind_op, Prog.bind_ret, Prog.pure_eq_ret]
  refine op_wstart m K (2 : Fin 8) rfl (by decide) (by decide) (0 : Fin 2) rfl rfl (k0_off6_eq c) ?_
  refine op_wwait m K (1 : Fin 8) rfl (by decide) (by decide) (1 : Fin 2) rfl (by rfl) (by rfl) ?_
  refine op_wload m K (1 : Fin 8) (by decide) (by decide) (by decide) (1 : Fin 2) rfl ?_
  refine op_w8dead m K fun _ => ?_
  refine op_w8store m K 1 rfl rfl (pay8 _) ?_
  refine op_wstart m K (3 : Fin 8) rfl (by decide) (by decide) (1 : Fin 2) rfl rfl (k0_off7_eq c) ?_
  refine op_wwait m K (2 : Fin 8) rfl (by decide) (by decide) (0 : Fin 2) rfl (by rfl) (by rfl) ?_
  refine op_wload m K (2 : Fin 8) (by decide) (by decide) (by decide) (0 : Fin 2) rfl ?_
  exact h

theorem part8_run {v2 : BitVec 32} {k : (PUnit) → Prog (TpuEff nD τ sig (Elt F) Λ₀ .tc) α}
    (h : iprop(St m K c 4 4 4 6 4 4 4 0 0 0 0 0 ∗ R) ⊢ WP c (k ⟨⟩) Q) :
    iprop(St m K c 4 4 4 4 3 2 4 0 0 0 0 0 ∗ R) ⊢ WP c (k0_part8 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 (k0_pay9 (wt m c 2)) >>= k) Q := by
  simp only [k0_part8_eq_skeleton]; unfold k0_part8_skel
  simp only [Prog.lift, Prog.bind_op, Prog.bind_ret, Prog.pure_eq_ret]
  refine op_w8dead m K fun _ => ?_
  refine op_w8store m K 2 rfl rfl (pay10 _) ?_
  refine op_wstart m K (4 : Fin 8) rfl (by decide) (by decide) (0 : Fin 2) rfl rfl (k0_off8_eq c) ?_
  refine op_wwait m K (3 : Fin 8) rfl (by decide) (by decide) (1 : Fin 2) rfl (by rfl) (by rfl) ?_
  refine op_wload m K (3 : Fin 8) (by decide) (by decide) (by decide) (1 : Fin 2) rfl ?_
  refine op_w8dead m K fun _ => ?_
  refine op_w8store m K 3 rfl rfl (pay11 _) ?_
  refine op_wstart m K (5 : Fin 8) rfl (by decide) (by decide) (1 : Fin 2) rfl rfl (k0_off9_eq c) ?_
  exact h

end Cert.RingMM
-- ==== Proof.PartsB.lean ====
/-
# The run of the body, parts 9 to 14
-/
module

public import proofs.«01_k».proof.Proof.Offs

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ)
variable {c : Dev nD} {R : sProp (MT nD τ sig Unit (Elt F) ℕ UU ℕ)} {α : Type} {Q : α → sProp (MT nD τ sig Unit (Elt F) ℕ UU ℕ)}

theorem part9_run {v2 : BitVec 32} {k : (PUnit) → Prog (TpuEff nD τ sig (Elt F) Λ₀ .tc) α}
    (h : iprop(St m K c 4 4 4 7 6 6 4 0 0 0 0 0 ∗ R) ⊢ WP c (k ⟨⟩) Q) :
    iprop(St m K c 4 4 4 6 4 4 4 0 0 0 0 0 ∗ R) ⊢ WP c (k0_part9 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 >>= k) Q := by
  simp only [k0_part9_eq_skeleton]; unfold k0_part9_skel
  simp only [Prog.lift, Prog.bind_op, Prog.bind_ret, Prog.pure_eq_ret]
  refine op_wwait m K (4 : Fin 8) rfl (by decide) (by decide) (0 : Fin 2) rfl (by rfl) (by rfl) ?_
  refine op_wload m K (4 : Fin 8) (by decide) (by decide) (by decide) (0 : Fin 2) rfl ?_
  refine op_w8dead m K fun _ => ?_
  refine op_w8store m K 4 rfl rfl (pay12 _) ?_
  refine op_wstart m K (6 : Fin 8) rfl (by decide) (by decide) (0 : Fin 2) rfl rfl (k0_off10_eq c) ?_
  refine op_wwait m K (5 : Fin 8) rfl (by decide) (by decide) (1 : Fin 2) rfl (by rfl) (by rfl) ?_
  refine op_wload m K (5 : Fin 8) (by decide) (by decide) (by decide) (1 : Fin 2) rfl ?_
  refine op_w8dead m K fun _ => ?_
  refine op_w8store m K 5 rfl rfl (pay13 _) ?_
  exact h

theorem part10_run {v2 v4 v6 : BitVec 32} {k : (BitVec 32) → Prog (TpuEff nD τ sig (Elt F) Λ₀ .tc) α}
    (h : ∀ b1 : BitVec 32, iprop(St m K c 4 4 4 8 6 6 5 2 0 0 0 0 ∗ R) ⊢ WP c (k b1) Q) :
    iprop(St m K c 4 4 4 7 6 6 4 0 0 0 0 0 ∗ R) ⊢ WP c (k0_part10 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v4 v6 >>= k) Q := by
  simp only [k0_part10_eq_skeleton]; unfold k0_part10_skel
  simp only [Prog.lift, Prog.bind_op, Prog.bind_ret, Prog.pure_eq_ret]
  refine op_wstart m K (7 : Fin 8) rfl (by decide) (by decide) (1 : Fin 2) rfl rfl (k0_off11_eq c) ?_
  refine op_recv m K (0 : Fin 12) rfl (by decide) (by decide) rfl (credit_g _ _) ?_
  refine op_send m K (4 : Fin 12) rfl (by decide) (by decide) (Fin.ext (k0_dev7_eq c)) rfl rfl (off4_at c 1 0 4 (by decide)) ?_
  refine op_recv m K (1 : Fin 12) rfl (by decide) (by decide) rfl (credit_g _ _) ?_
  exact h _

theorem part11_run {v4 v287 : BitVec 32} {k : (FVec F S512x2048 .fp8e4m3) → Prog (TpuEff nD τ sig (Elt F) Λ₀ .tc) α}
    (h : iprop(St m K c 4 4 4 8 8 7 6 2 0 0 0 0 ∗ R) ⊢ WP c (k (k0_pay15 (wt m c 7))) Q) :
    iprop(St m K c 4 4 4 8 6 6 5 2 0 0 0 0 ∗ R) ⊢ WP c (k0_part11 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v4 v287 >>= k) Q := by
  simp only [k0_part11_eq_skeleton]; unfold k0_part11_skel
  simp only [Prog.lift, Prog.bind_op, Prog.bind_ret, Prog.pure_eq_ret]
  refine op_send m K (5 : Fin 12) rfl (by decide) (by decide) (Fin.ext (k0_dev8_eq c)) rfl rfl (off5_at c 1 0 5 (by decide)) ?_
  refine op_wwait m K (6 : Fin 8) rfl (by decide) (by decide) (0 : Fin 2) rfl (by rfl) (by rfl) ?_
  refine op_wload m K (6 : Fin 8) (by decide) (by decide) (by decide) (0 : Fin 2) rfl ?_
  refine op_w8dead m K fun _ => ?_
  refine op_w8store m K 6 rfl rfl (pay14 _) ?_
  refine op_wwait m K (7 : Fin 8) rfl (by decide) (by decide) (1 : Fin 2) rfl (by rfl) (by rfl) ?_
  refine op_wload m K (7 : Fin 8) (by decide) (by decide) (by decide) (1 : Fin 2) rfl ?_
  exact h

theorem part12_run {v2 v4 v6 : BitVec 32} {k : (BitVec 32) → Prog (TpuEff nD τ sig (Elt F) Λ₀ .tc) α}
    (h : ∀ b1 : BitVec 32, iprop(St m K c 4 4 4 8 8 8 7 4 0 0 0 0 ∗ R) ⊢ WP c (k b1) Q) :
    iprop(St m K c 4 4 4 8 8 7 6 2 0 0 0 0 ∗ R) ⊢ WP c (k0_part12 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v4 v6 (k0_pay15 (wt m c 7)) >>= k) Q := by
  simp only [k0_part12_eq_skeleton]; unfold k0_part12_skel
  simp only [Prog.lift, Prog.bind_op, Prog.bind_ret, Prog.pure_eq_ret]
  refine op_w8dead m K fun _ => ?_
  refine op_w8store m K 7 rfl rfl (pay16 _) ?_
  refine op_recv m K (2 : Fin 12) rfl (by decide) (by decide) rfl (credit_g _ _) ?_
  refine op_send m K (6 : Fin 12) rfl (by decide) (by decide) (Fin.ext (k0_dev9_eq c)) rfl rfl (off4_at c 1 1 6 (by decide)) ?_
  refine op_recv m K (3 : Fin 12) rfl (by decide) (by decide) rfl (credit_g _ _) ?_
  exact h _

theorem part13_run {v2 v4 v346 : BitVec 32} {k : (PUnit) → Prog (TpuEff nD τ sig (Elt F) Λ₀ .tc) α}
    (h : iprop(St m K c 4 4 4 8 8 8 8 4 0 1 1 0 ∗ R) ⊢ WP c (k ⟨⟩) Q) :
    iprop(St m K c 4 4 4 8 8 8 7 4 0 0 0 0 ∗ R) ⊢ WP c (k0_part13 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v4 (sc m c) v346 >>= k) Q := by
  simp only [k0_part13_eq_skeleton]; unfold k0_part13_skel
  simp only [Prog.lift, Prog.bind_op, Prog.bind_ret, Prog.pure_eq_ret]
  refine op_send m K (7 : Fin 12) rfl (by decide) (by decide) (Fin.ext (k0_dev10_eq c)) rfl rfl (off5_at c 1 1 7 (by decide)) ?_
  refine op_gload m K (0 : Fin 16) (by decide) (off3_at c 0 0 (by decide)) ?_
  refine op_w8load m K rfl ?_
  refine op_odead m K (0 : Fin 16) rfl (by decide) (by decide) (0 : Fin 2) rfl fun _ => ?_
  refine op_ostore m K (0 : Fin 16) rfl (by decide) (by decide) (by decide) (0 : Fin 2) rfl rfl ?_
  refine op_ostart m K (0 : Fin 16) rfl (by decide) (by decide) (0 : Fin 2) rfl rfl (off12_at c 0 0 (by decide)) ?_
  exact h

theorem part14_run {v2 : BitVec 32} {k : (FVec F S256x2048 .f32) → Prog (TpuEff nD τ sig (Elt F) Λ₀ .tc) α}
    (h : iprop(St m K c 4 4 4 8 8 8 8 4 0 2 2 1 ∗ R) ⊢ WP c (k (k0_pay19 (sc m c) (xrows m (blk c 1)) (W8 m c))) Q) :
    iprop(St m K c 4 4 4 8 8 8 8 4 0 1 1 0 ∗ R) ⊢ WP c (k0_part14 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 (sc m c) >>= k) Q := by
  simp only [k0_part14_eq_skeleton]; unfold k0_part14_skel
  simp only [Prog.lift, Prog.bind_op, Prog.bind_ret, Prog.pure_eq_ret]
  refine op_gload m K (2 : Fin 16) (by decide) (off3_at c 1 2 (by decide)) ?_
  refine op_w8load m K rfl ?_
  refine op_odead m K (1 : Fin 16) rfl (by decide) (by decide) (1 : Fin 2) rfl fun _ => ?_
  refine op_ostore m K (1 : Fin 16) rfl (by decide) (by decide) (by decide) (1 : Fin 2) rfl (pay18 _ _ _) ?_
  refine op_ostart m K (1 : Fin 16) rfl (by decide) (by decide) (1 : Fin 2) rfl rfl (off12_at c 1 2 (by decide)) ?_
  refine op_owait m K (0 : Fin 16) rfl (by decide) (by decide) (by decide) (0 : Fin 2) rfl rfl (credit_o _ _ (oSem 0)) ?_
  refine op_gload m K (1 : Fin 16) (by decide) (off3_at c 2 1 (by decide)) ?_
  refine op_w8load m K rfl ?_
  exact h

end Cert.RingMM
-- ==== Proof.PartsC.lean ====
/-
# The run of the body, parts 15 to 21
-/
module

public import proofs.«01_k».proof.Proof.Offs

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ)
variable {c : Dev nD} {R : sProp (MT nD τ sig Unit (Elt F) ℕ UU ℕ)} {α : Type} {Q : α → sProp (MT nD τ sig Unit (Elt F) ℕ UU ℕ)}

theorem part15_run {v2 : BitVec 32} {k : (PUnit) → Prog (TpuEff nD τ sig (Elt F) Λ₀ .tc) α}
    (h : iprop(St m K c 4 4 4 8 8 8 8 4 0 4 3 2 ∗ R) ⊢ WP c (k ⟨⟩) Q) :
    iprop(St m K c 4 4 4 8 8 8 8 4 0 2 2 1 ∗ R) ⊢ WP c (k0_part15 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 (sc m c) (k0_pay19 (sc m c) (xrows m (blk c 1)) (W8 m c)) >>= k) Q := by
  simp only [k0_part15_eq_skeleton]; unfold k0_part15_skel
  simp only [Prog.lift, Prog.bind_op, Prog.bind_ret, Prog.pure_eq_ret]
  refine op_odead m K (2 : Fin 16) rfl (by decide) (by decide) (0 : Fin 2) rfl fun _ => ?_
  refine op_ostore m K (2 : Fin 16) rfl (by decide) (by decide) (by decide) (0 : Fin 2) rfl (pay20 _ _ _) ?_
  refine op_ostart m K (2 : Fin 16) rfl (by decide) (by decide) (0 : Fin 2) rfl rfl (off12_at c 2 1 (by decide)) ?_
  refine op_owait m K (1 : Fin 16) rfl (by decide) (by decide) (by decide) (1 : Fin 2) rfl rfl (credit_o _ _ (oSem 0)) ?_
  refine op_gload m K (3 : Fin 16) (by decide) (off3_at c 3 3 (by decide)) ?_
  refine op_w8load m K rfl ?_
  refine op_odead m K (3 : Fin 16) rfl (by decide) (by decide) (1 : Fin 2) rfl fun _ => ?_
  refine op_ostore m K (3 : Fin 16) rfl (by decide) (by decide) (by decide) (1 : Fin 2) rfl (pay21 _ _ _) ?_
  exact h

theorem part16_run {v6 v154 : BitVec 32} {k : (PUnit) → Prog (TpuEff nD τ sig (Elt F) Λ₀ .tc) α}
    (h : iprop(St m K c 4 4 4 8 8 8 8 5 0 5 5 3 ∗ R) ⊢ WP c (k ⟨⟩) Q) :
    iprop(St m K c 4 4 4 8 8 8 8 4 0 4 3 2 ∗ R) ⊢ WP c (k0_part16 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v6 (sc m c) v154 >>= k) Q := by
  simp only [k0_part16_eq_skeleton]; unfold k0_part16_skel
  simp only [Prog.lift, Prog.bind_op, Prog.bind_ret, Prog.pure_eq_ret]
  refine op_ostart m K (3 : Fin 16) rfl (by decide) (by decide) (1 : Fin 2) rfl rfl (off12_at c 3 3 (by decide)) ?_
  refine op_owait m K (2 : Fin 16) rfl (by decide) (by decide) (by decide) (0 : Fin 2) rfl rfl (credit_o _ _ (oSem 0)) ?_
  refine op_gload m K (4 : Fin 16) (by decide) (off13_at c 2 0 4 (by decide)) ?_
  refine op_w8load m K rfl ?_
  refine op_odead m K (4 : Fin 16) rfl (by decide) (by decide) (0 : Fin 2) rfl fun _ => ?_
  refine op_ostore m K (4 : Fin 16) rfl (by decide) (by decide) (by decide) (0 : Fin 2) rfl (pay22 _ _ _) ?_
  refine op_ostart m K (4 : Fin 16) rfl (by decide) (by decide) (0 : Fin 2) rfl rfl (off14_at c 2 0 4 (by decide)) ?_
  refine op_recv m K (4 : Fin 12) rfl (by decide) (by decide) rfl (credit_g _ _) ?_
  exact h

theorem part17_run {v2 v4 v6 : BitVec 32} {k : (PUnit) → Prog (TpuEff nD τ sig (Elt F) Λ₀ .tc) α}
    (h : iprop(St m K c 4 4 4 8 8 8 9 6 0 5 5 3 ∗ R) ⊢ WP c (k ⟨⟩) Q) :
    iprop(St m K c 4 4 4 8 8 8 8 5 0 5 5 3 ∗ R) ⊢ WP c (k0_part17 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v4 v6 >>= k) Q := by
  simp only [k0_part17_eq_skeleton]; unfold k0_part17_skel
  simp only [Prog.lift, Prog.bind_op, Prog.bind_ret, Prog.pure_eq_ret]
  refine op_send m K (8 : Fin 12) rfl (by decide) (by decide) (Fin.ext (k0_dev11_eq c)) rfl rfl (off4_at c 0 0 8 (by decide)) ?_
  refine op_recv m K (5 : Fin 12) rfl (by decide) (by decide) rfl (credit_g _ _) ?_
  exact h

theorem part18_run {v154 v156 : BitVec 32} {k : (BitVec 32) → Prog (TpuEff nD τ sig (Elt F) Λ₀ .tc) α}
    (h : ∀ b1 : BitVec 32, iprop(St m K c 4 4 4 8 8 8 10 6 0 6 6 5 ∗ R) ⊢ WP c (k b1) Q) :
    iprop(St m K c 4 4 4 8 8 8 9 6 0 5 5 3 ∗ R) ⊢ WP c (k0_part18 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c (sc m c) v154 v156 >>= k) Q := by
  simp only [k0_part18_eq_skeleton]; unfold k0_part18_skel
  simp only [Prog.lift, Prog.bind_op, Prog.bind_ret, Prog.pure_eq_ret]
  refine op_send m K (9 : Fin 12) rfl (by decide) (by decide) (Fin.ext (k0_dev12_eq c)) rfl rfl (off5_at c 2 0 9 (by decide)) ?_
  refine op_owait m K (3 : Fin 16) rfl (by decide) (by decide) (by decide) (1 : Fin 2) rfl rfl (credit_o _ _ (oSem 0)) ?_
  refine op_gload m K (6 : Fin 16) (by decide) (off13_at c 2 1 6 (by decide)) ?_
  refine op_w8load m K rfl ?_
  refine op_odead m K (5 : Fin 16) rfl (by decide) (by decide) (1 : Fin 2) rfl fun _ => ?_
  refine op_ostore m K (5 : Fin 16) rfl (by decide) (by decide) (by decide) (1 : Fin 2) rfl (pay23 _ _ _) ?_
  refine op_ostart m K (5 : Fin 16) rfl (by decide) (by decide) (1 : Fin 2) rfl rfl (off14_at c 2 1 6 (by decide)) ?_
  refine op_owait m K (4 : Fin 16) rfl (by decide) (by decide) (by decide) (0 : Fin 2) rfl rfl (credit_o _ _ (oSem 0)) ?_
  exact h _

theorem part19_run {v2 v6 v527 : BitVec 32} {k : (PUnit) → Prog (TpuEff nD τ sig (Elt F) Λ₀ .tc) α}
    (h : iprop(St m K c 4 4 4 8 8 8 10 7 0 7 7 5 ∗ R) ⊢ WP c (k ⟨⟩) Q) :
    iprop(St m K c 4 4 4 8 8 8 10 6 0 6 6 5 ∗ R) ⊢ WP c (k0_part19 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v6 (sc m c) v527 >>= k) Q := by
  simp only [k0_part19_eq_skeleton]; unfold k0_part19_skel
  simp only [Prog.lift, Prog.bind_op, Prog.bind_ret, Prog.pure_eq_ret]
  refine op_gload m K (5 : Fin 16) (by decide) (off13_at c 0 2 5 (by decide)) ?_
  refine op_w8load m K rfl ?_
  refine op_odead m K (6 : Fin 16) rfl (by decide) (by decide) (0 : Fin 2) rfl fun _ => ?_
  refine op_ostore m K (6 : Fin 16) rfl (by decide) (by decide) (by decide) (0 : Fin 2) rfl (pay24 _ _ _) ?_
  refine op_ostart m K (6 : Fin 16) rfl (by decide) (by decide) (0 : Fin 2) rfl rfl (off14_at c 0 2 5 (by decide)) ?_
  refine op_recv m K (6 : Fin 12) rfl (by decide) (by decide) rfl (credit_g _ _) ?_
  exact h

theorem part20_run {v2 v4 v156 : BitVec 32} {k : (BitVec 32) → Prog (TpuEff nD τ sig (Elt F) Λ₀ .tc) α}
    (h : ∀ b1 : BitVec 32, iprop(St m K c 4 4 4 8 8 8 12 8 0 7 7 6 ∗ R) ⊢ WP c (k b1) Q) :
    iprop(St m K c 4 4 4 8 8 8 10 7 0 7 7 5 ∗ R) ⊢ WP c (k0_part20 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v2 v4 v156 >>= k) Q := by
  simp only [k0_part20_eq_skeleton]; unfold k0_part20_skel
  simp only [Prog.lift, Prog.bind_op, Prog.bind_ret, Prog.pure_eq_ret]
  refine op_send m K (10 : Fin 12) rfl (by decide) (by decide) (Fin.ext (k0_dev13_eq c)) rfl rfl (off4_at c 0 1 10 (by decide)) ?_
  refine op_recv m K (7 : Fin 12) rfl (by decide) (by decide) rfl (credit_g _ _) ?_
  refine op_send m K (11 : Fin 12) rfl (by decide) (by decide) (Fin.ext (k0_dev14_eq c)) rfl rfl (off5_at c 2 1 11 (by decide)) ?_
  refine op_owait m K (5 : Fin 16) rfl (by decide) (by decide) (by decide) (1 : Fin 2) rfl rfl (credit_o _ _ (oSem 0)) ?_
  exact h _

theorem part21_run {v158 v587 : BitVec 32} {k : (Σ' (v617 : FVec F S256x2048 .f32), FVec F S256x2048 .f32) → Prog (TpuEff nD τ sig (Elt F) Λ₀ .tc) α}
    (h : iprop(St m K c 4 4 4 8 8 8 12 8 0 8 8 7 ∗ R) ⊢ WP c (k ⟨(k0_pay26 (sc m c) (xrows m (blk c 8)) (W8 m c)), (k0_pay27 (F := F))⟩) Q) :
    iprop(St m K c 4 4 4 8 8 8 12 8 0 7 7 6 ∗ R) ⊢ WP c (k0_part21 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c (sc m c) v158 v587 >>= k) Q := by
  simp only [k0_part21_eq_skeleton]; unfold k0_part21_skel
  simp only [Prog.lift, Prog.bind_op, Prog.bind_ret, Prog.pure_eq_ret]
  refine op_gload m K (7 : Fin 16) (by decide) (off13_at c 0 3 7 (by decide)) ?_
  refine op_w8load m K rfl ?_
  refine op_odead m K (7 : Fin 16) rfl (by decide) (by decide) (1 : Fin 2) rfl fun _ => ?_
  refine op_ostore m K (7 : Fin 16) rfl (by decide) (by decide) (by decide) (1 : Fin 2) rfl (pay25 _ _ _) ?_
  refine op_ostart m K (7 : Fin 16) rfl (by decide) (by decide) (1 : Fin 2) rfl rfl (off14_at c 0 3 7 (by decide)) ?_
  refine op_owait m K (6 : Fin 16) rfl (by decide) (by decide) (by decide) (0 : Fin 2) rfl rfl (credit_o _ _ (oSem 0)) ?_
  refine op_gload m K (8 : Fin 16) (by decide) (off13_at c 1 0 8 (by decide)) ?_
  refine op_w8load m K rfl ?_
  exact h

end Cert.RingMM
-- ==== Proof.PartsD.lean ====
/-
# The run of the body, parts 22 to 29
-/
module

public import proofs.«01_k».proof.Proof.Offs

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ)
variable {c : Dev nD} {R : sProp (MT nD τ sig Unit (Elt F) ℕ UU ℕ)} {α : Type} {Q : α → sProp (MT nD τ sig Unit (Elt F) ℕ UU ℕ)}

theorem part22_run {v158 : BitVec 32} {k : (PUnit) → Prog (TpuEff nD τ sig (Elt F) Λ₀ .tc) α}
    (h : iprop(St m K c 4 4 4 8 8 8 12 8 0 10 9 8 ∗ R) ⊢ WP c (k ⟨⟩) Q) :
    iprop(St m K c 4 4 4 8 8 8 12 8 0 8 8 7 ∗ R) ⊢ WP c (k0_part22 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c (sc m c) v158 (k0_pay26 (sc m c) (xrows m (blk c 8)) (W8 m c)) (k0_pay27 (F := F)) >>= k) Q := by
  simp only [k0_part22_eq_skeleton]; unfold k0_part22_skel
  simp only [Prog.lift, Prog.bind_op, Prog.bind_ret, Prog.pure_eq_ret]
  refine op_odead m K (8 : Fin 16) rfl (by decide) (by decide) (0 : Fin 2) rfl fun _ => ?_
  refine op_ostore m K (8 : Fin 16) rfl (by decide) (by decide) (by decide) (0 : Fin 2) rfl (pay28 _ _ _) ?_
  refine op_ostart m K (8 : Fin 16) rfl (by decide) (by decide) (0 : Fin 2) rfl rfl (off14_at c 1 0 8 (by decide)) ?_
  refine op_owait m K (7 : Fin 16) rfl (by decide) (by decide) (by decide) (1 : Fin 2) rfl rfl (credit_o _ _ (oSem 0)) ?_
  refine op_gload m K (9 : Fin 16) (by decide) (off13_at c 1 2 9 (by decide)) ?_
  refine op_w8load m K rfl ?_
  refine op_odead m K (9 : Fin 16) rfl (by decide) (by decide) (1 : Fin 2) rfl fun _ => ?_
  refine op_ostore m K (9 : Fin 16) rfl (by decide) (by decide) (by decide) (1 : Fin 2) rfl (pay29 _ _ _) ?_
  exact h

theorem part23_run {v158 : BitVec 32} {k : (PUnit) → Prog (TpuEff nD τ sig (Elt F) Λ₀ .tc) α}
    (h : iprop(St m K c 4 4 4 8 8 8 12 8 0 11 11 9 ∗ R) ⊢ WP c (k ⟨⟩) Q) :
    iprop(St m K c 4 4 4 8 8 8 12 8 0 10 9 8 ∗ R) ⊢ WP c (k0_part23 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c (sc m c) v158 >>= k) Q := by
  simp only [k0_part23_eq_skeleton]; unfold k0_part23_skel
  simp only [Prog.lift, Prog.bind_op, Prog.bind_ret, Prog.pure_eq_ret]
  refine op_ostart m K (9 : Fin 16) rfl (by decide) (by decide) (1 : Fin 2) rfl rfl (off14_at c 1 2 9 (by decide)) ?_
  refine op_owait m K (8 : Fin 16) rfl (by decide) (by decide) (by decide) (0 : Fin 2) rfl rfl (credit_o _ _ (oSem 0)) ?_
  refine op_gload m K (10 : Fin 16) (by decide) (off13_at c 1 1 10 (by decide)) ?_
  refine op_w8load m K rfl ?_
  refine op_odead m K (10 : Fin 16) rfl (by decide) (by decide) (0 : Fin 2) rfl fun _ => ?_
  refine op_ostore m K (10 : Fin 16) rfl (by decide) (by decide) (by decide) (0 : Fin 2) rfl (pay30 _ _ _) ?_
  refine op_ostart m K (10 : Fin 16) rfl (by decide) (by decide) (0 : Fin 2) rfl rfl (off14_at c 1 1 10 (by decide)) ?_
  exact h

theorem part24_run {v6 v158 : BitVec 32} {k : (PUnit) → Prog (TpuEff nD τ sig (Elt F) Λ₀ .tc) α}
    (h : iprop(St m K c 4 4 4 8 8 8 12 9 0 12 12 10 ∗ R) ⊢ WP c (k ⟨⟩) Q) :
    iprop(St m K c 4 4 4 8 8 8 12 8 0 11 11 9 ∗ R) ⊢ WP c (k0_part24 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v6 (sc m c) v158 >>= k) Q := by
  simp only [k0_part24_eq_skeleton]; unfold k0_part24_skel
  simp only [Prog.lift, Prog.bind_op, Prog.bind_ret, Prog.pure_eq_ret]
  refine op_owait m K (9 : Fin 16) rfl (by decide) (by decide) (by decide) (1 : Fin 2) rfl rfl (credit_o _ _ (oSem 0)) ?_
  refine op_gload m K (11 : Fin 16) (by decide) (off13_at c 1 3 11 (by decide)) ?_
  refine op_w8load m K rfl ?_
  refine op_odead m K (11 : Fin 16) rfl (by decide) (by decide) (1 : Fin 2) rfl fun _ => ?_
  refine op_ostore m K (11 : Fin 16) rfl (by decide) (by decide) (by decide) (1 : Fin 2) rfl (pay31 _ _ _) ?_
  refine op_ostart m K (11 : Fin 16) rfl (by decide) (by decide) (1 : Fin 2) rfl rfl (off14_at c 1 3 11 (by decide)) ?_
  refine op_recv m K (8 : Fin 12) rfl (by decide) (by decide) rfl (credit_g _ _) ?_
  exact h

theorem part25_run {v4 v156 : BitVec 32} {k : (PUnit) → Prog (TpuEff nD τ sig (Elt F) Λ₀ .tc) α}
    (h : iprop(St m K c 4 4 4 8 8 8 12 10 0 13 13 12 ∗ R) ⊢ WP c (k ⟨⟩) Q) :
    iprop(St m K c 4 4 4 8 8 8 12 9 0 12 12 10 ∗ R) ⊢ WP c (k0_part25 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v4 (sc m c) v156 >>= k) Q := by
  simp only [k0_part25_eq_skeleton]; unfold k0_part25_skel
  simp only [Prog.lift, Prog.bind_op, Prog.bind_ret, Prog.pure_eq_ret]
  refine op_owait m K (10 : Fin 16) rfl (by decide) (by decide) (by decide) (0 : Fin 2) rfl rfl (credit_o _ _ (oSem 0)) ?_
  refine op_gload m K (12 : Fin 16) (by decide) (off13_at c 0 0 12 (by decide)) ?_
  refine op_w8load m K rfl ?_
  refine op_odead m K (12 : Fin 16) rfl (by decide) (by decide) (0 : Fin 2) rfl fun _ => ?_
  refine op_ostore m K (12 : Fin 16) rfl (by decide) (by decide) (by decide) (0 : Fin 2) rfl (pay32 _ _ _) ?_
  refine op_ostart m K (12 : Fin 16) rfl (by decide) (by decide) (0 : Fin 2) rfl rfl (off14_at c 0 0 12 (by decide)) ?_
  refine op_recv m K (9 : Fin 12) rfl (by decide) (by decide) rfl (credit_g _ _) ?_
  refine op_owait m K (11 : Fin 16) rfl (by decide) (by decide) (by decide) (1 : Fin 2) rfl rfl (credit_o _ _ (oSem 0)) ?_
  exact h

theorem part26_run {v6 v154 : BitVec 32} {k : (BitVec 32) → Prog (TpuEff nD τ sig (Elt F) Λ₀ .tc) α}
    (h : ∀ b1 : BitVec 32, iprop(St m K c 4 4 4 8 8 8 12 11 0 14 14 13 ∗ R) ⊢ WP c (k b1) Q) :
    iprop(St m K c 4 4 4 8 8 8 12 10 0 13 13 12 ∗ R) ⊢ WP c (k0_part26 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v6 (sc m c) v154 >>= k) Q := by
  simp only [k0_part26_eq_skeleton]; unfold k0_part26_skel
  simp only [Prog.lift, Prog.bind_op, Prog.bind_ret, Prog.pure_eq_ret]
  refine op_gload m K (13 : Fin 16) (by decide) (off13_at c 2 2 13 (by decide)) ?_
  refine op_w8load m K rfl ?_
  refine op_odead m K (13 : Fin 16) rfl (by decide) (by decide) (1 : Fin 2) rfl fun _ => ?_
  refine op_ostore m K (13 : Fin 16) rfl (by decide) (by decide) (by decide) (1 : Fin 2) rfl (pay33 _ _ _) ?_
  refine op_ostart m K (13 : Fin 16) rfl (by decide) (by decide) (1 : Fin 2) rfl rfl (off14_at c 2 2 13 (by decide)) ?_
  refine op_recv m K (10 : Fin 12) rfl (by decide) (by decide) rfl (credit_g _ _) ?_
  refine op_owait m K (12 : Fin 16) rfl (by decide) (by decide) (by decide) (0 : Fin 2) rfl rfl (credit_o _ _ (oSem 0)) ?_
  exact h _

theorem part27_run {v4 v154 v156 c1024_i32_661 : BitVec 32} {k : (BitVec 32) → Prog (TpuEff nD τ sig (Elt F) Λ₀ .tc) α}
    (h : ∀ b1 : BitVec 32, iprop(St m K c 4 4 4 8 8 8 12 12 0 15 15 14 ∗ R) ⊢ WP c (k b1) Q) :
    iprop(St m K c 4 4 4 8 8 8 12 11 0 14 14 13 ∗ R) ⊢ WP c (k0_part27 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c v4 (sc m c) v154 v156 c1024_i32_661 >>= k) Q := by
  simp only [k0_part27_eq_skeleton]; unfold k0_part27_skel
  simp only [Prog.lift, Prog.bind_op, Prog.bind_ret, Prog.pure_eq_ret]
  refine op_gload m K (14 : Fin 16) (by decide) (off13_at c 0 1 14 (by decide)) ?_
  refine op_w8load m K rfl ?_
  refine op_odead m K (14 : Fin 16) rfl (by decide) (by decide) (0 : Fin 2) rfl fun _ => ?_
  refine op_ostore m K (14 : Fin 16) rfl (by decide) (by decide) (by decide) (0 : Fin 2) rfl (pay34 _ _ _) ?_
  refine op_ostart m K (14 : Fin 16) rfl (by decide) (by decide) (0 : Fin 2) rfl rfl (off14_at c 0 1 14 (by decide)) ?_
  refine op_recv m K (11 : Fin 12) rfl (by decide) (by decide) rfl (credit_g _ _) ?_
  refine op_owait m K (13 : Fin 16) rfl (by decide) (by decide) (by decide) (1 : Fin 2) rfl rfl (credit_o _ _ (oSem 0)) ?_
  exact h _

theorem part28_run {v795 : BitVec 32} {k : (PUnit) → Prog (TpuEff nD τ sig (Elt F) Λ₀ .tc) α}
    (h : iprop(St m K c 4 4 4 8 8 8 12 12 2 16 16 14 ∗ R) ⊢ WP c (k ⟨⟩) Q) :
    iprop(St m K c 4 4 4 8 8 8 12 12 0 15 15 14 ∗ R) ⊢ WP c (k0_part28 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c (sc m c) v795 >>= k) Q := by
  simp only [k0_part28_eq_skeleton]; unfold k0_part28_skel
  simp only [Prog.lift, Prog.bind_op, Prog.bind_ret, Prog.pure_eq_ret]
  refine op_gload m K (15 : Fin 16) (by decide) (off13_at c 2 3 15 (by decide)) ?_
  refine op_w8load m K rfl ?_
  refine op_odead m K (15 : Fin 16) rfl (by decide) (by decide) (1 : Fin 2) rfl fun _ => ?_
  refine op_ostore m K (15 : Fin 16) rfl (by decide) (by decide) (by decide) (1 : Fin 2) rfl (pay35 _ _ _) ?_
  refine op_ostart m K (15 : Fin 16) rfl (by decide) (by decide) (1 : Fin 2) rfl rfl (off14_at c 2 3 15 (by decide)) ?_
  refine op_swait m K (0 : Fin 12) rfl (by decide) (by decide) rfl (credit_g _ _) ?_
  refine op_swait m K (1 : Fin 12) rfl (by decide) (by decide) rfl (credit_g _ _) ?_
  exact h

theorem part29_run {k : (PUnit) → Prog (TpuEff nD τ sig (Elt F) Λ₀ .tc) α}
    (h : iprop(St m K c 4 4 4 8 8 8 12 12 8 16 16 14 ∗ R) ⊢ WP c (k ⟨⟩) Q) :
    iprop(St m K c 4 4 4 8 8 8 12 12 2 16 16 14 ∗ R) ⊢ WP c (k0_part29 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 c >>= k) Q := by
  simp only [k0_part29_eq_skeleton]; unfold k0_part29_skel
  simp only [Prog.lift, Prog.bind_op, Prog.bind_ret, Prog.pure_eq_ret]
  refine op_swait m K (2 : Fin 12) rfl (by decide) (by decide) rfl (credit_g _ _) ?_
  refine op_swait m K (3 : Fin 12) rfl (by decide) (by decide) rfl (credit_g _ _) ?_
  refine op_swait m K (4 : Fin 12) rfl (by decide) (by decide) rfl (credit_g _ _) ?_
  refine op_swait m K (5 : Fin 12) rfl (by decide) (by decide) rfl (credit_g _ _) ?_
  refine op_swait m K (6 : Fin 12) rfl (by decide) (by decide) rfl (credit_g _ _) ?_
  refine op_swait m K (7 : Fin 12) rfl (by decide) (by decide) rfl (credit_g _ _) ?_
  exact h

end Cert.RingMM
-- ==== Proof.Body.lean ====
/-
# The body: the barrier, the thirty parts, what is left to wait for
-/
module

public import proofs.«01_k».proof.Proof.PartsA
public import proofs.«01_k».proof.Proof.PartsB
public import proofs.«01_k».proof.Proof.PartsC
public import proofs.«01_k».proof.Proof.PartsD

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ)
variable {c : Dev nD} {R : sProp (MT nD τ sig Unit (Elt F) ℕ UU ℕ)} {α : Type} {Q : α → sProp (MT nD τ sig Unit (Elt F) ℕ UU ℕ)}

/-! ## The barrier -/

theorem inv_bar (e : Dev nD) : env m K ⊢ cellInv ER (ring m) (K (e, 0)) (barCell e) := env_inv m K (e, 0)
theorem reached_bar (e : Dev nD) : env m K ⊢ reached ER (barCell e) 0 := env_reached m K (e, 0)

/-- A transfer still to go, but for the place it lands at. -/
def toSend (c : Dev nD) (x : ℕ) : sProp 𝕄 :=
  iprop(dutyTok ER (sendCell c x) 0 false ∗ dutyTok ER (recvCell (dst c x) x) 0 false ∗ atPos ER (sendCell c x) 0 ∅ 0)

omit [FloatOps F] in
theorem fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- Twelve members, the even ones first. -/
theorem fin12 (Φ : Fin 12 → sProp 𝕄) :
    bigSep Finset.univ Φ = iprop(Φ 0 ∗ Φ 2 ∗ Φ 4 ∗ Φ 6 ∗ Φ 8 ∗ Φ 10 ∗ Φ 1 ∗ Φ 3 ∗ Φ 5 ∗ Φ 7 ∗ Φ 9 ∗ Φ 11) :=
  bigSep_univ_eq_bigSepL [0, 2, 4, 6, 8, 10, 1, 3, 5, 7, 9, 11] (by decide) (by decide) Φ
omit [FloatOps F] in
theorem assocL {A B C : sProp 𝕄} : iprop(A ∗ B ∗ C) ⊢ iprop((A ∗ B) ∗ C) := by
  iintro ⟨HA, HB, HC⟩; isplitr [HC]; · (isplitl [HA] <;> iassumption)
  iexact HC
omit [FloatOps F] in
theorem assocR {A B C : sProp 𝕄} : iprop((A ∗ B) ∗ C) ⊢ iprop(A ∗ B ∗ C) := by
  iintro ⟨⟨HA, HB⟩, HC⟩; isplitl [HA]; · iexact HA
  isplitl [HB] <;> iassumption

omit [FloatOps F] in
/-- The two signals bring the places of all twelve transfers. -/
theorem lands (c : Dev nD) : iprop(barPay c true ∗ barPay (F := F) c false) ⊢ bigSep Finset.univ fun x : Fin 12 => land (F := F) c x := by
  unfold barPay
  rw [fin6, fin6, fin12]
  iintro ⟨⟨H0, H2, H4, H6, H8, H10⟩, H1, H3, H5, H7, H9, H11⟩
  isplitl [H0]; · iexact H0
  isplitl [H2]; · iexact H2
  isplitl [H4]; · iexact H4
  isplitl [H6]; · iexact H6
  isplitl [H8]; · iexact H8
  isplitl [H10]; · iexact H10
  isplitl [H1]; · iexact H1
  isplitl [H3]; · iexact H3
  isplitl [H5]; · iexact H5
  isplitl [H7]; · iexact H7
  isplitl [H9]; · iexact H9
  iexact H11

theorem pS_start (c : Dev nD) (x : Fin 12) : iprop(toSend (F := F) c x ∗ land (F := F) c x) ⊢ pS (F := F) c x 0 := by
  unfold toSend; simp only [pS]
  iintro ⟨⟨H1, H2, H3⟩, H4⟩
  isplitl [H1]; · iexact H1
  isplitl [H2]; · iexact H2
  isplitl [H4] <;> iassumption

theorem famS_start (c : Dev nD) :
    iprop((bigSep Finset.univ fun x : Fin 12 => toSend (F := F) c x) ∗ bigSep Finset.univ fun x : Fin 12 => land (F := F) c x) ⊢ famS (F := F) c 0 0 := by
  unfold famS
  rw [← bigSep_sep']
  refine bigSep_mono fun x _ => ?_
  rw [show stS 0 0 x = 0 from if_pos (Nat.zero_le _)]
  exact pS_start c x

/-- What a device's barrier handshake takes: its two units of credit, its place at its barrier cell, the two duties it pays. -/
def barP (c : Dev nD) : sProp 𝕄 :=
  iprop(cred (tallyAt (barCell c) () 2) ∗ atPos ER (barCell c) 0 ∅ 0 ∗ dutyTok ER (barCell (prv c)) 0 true ∗ dutyTok ER (barCell (nxt c)) 0 false)

/-- The pieces before the body. -/
def pieces (c : Dev nD) : sProp 𝕄 :=
  iprop(famX m c 0 0 ∗ famW m c 0 0 ∗ w8P m c 0 ∗ famG m c 0 0 0 0 ∗ (bigSep Finset.univ fun x : Fin 12 => toSend (F := F) c x) ∗ famR (F := F) c 0 ∗ famO m c 0 0 0)

/-- What a device starts the body with. -/
def St0 (c : Dev nD) : sProp 𝕄 :=
  iprop(env m K ∗ (∃ W, owes (c : Thread nD τ) (O₀ c) W) ∗ barP (F := F) c ∗ (barPay (F := F) (prv c) true ∗ barPay (F := F) (nxt c) false) ∗ pieces m c)

/-- The two scales as the launch stages them. -/
def stg (c : Dev nD) (g0 g1 : S1.Idx → Elt F .f32) : sProp 𝕄 :=
  iprop(((c : Thread nD τ).loc cc0_stg0_0 ↦{fullShare} g0) ∗ ((c : Thread nD τ).loc cc0_stg1_0 ↦{fullShare} g1))

theorem one_idx (x y : S1.Idx) : x = y := funext fun a => by
  have ha : a = 0 := Subsingleton.elim (α := Fin 1) a 0
  subst ha
  have h1 := (x 0).isLt; have h2 := (y 0).isLt
  exact Fin.ext (by change (x 0 : ℕ) < 1 at h1; change (y 0 : ℕ) < 1 at h2; omega)

theorem read_sx (g : S1.Idx → Elt F .f32) (x) : ((sxM : Memref sig .tc .smem S1 .f32).access (Rect.unit (s := S1) ![0] S1.size inb_S1_S1_0)).read (Elt F) g x = g (ix1 (0 : Fin 1)) :=
  congrArg g (one_idx _ _)
theorem read_sw (g : S1.Idx → Elt F .f32) (x) : ((swM : Memref sig .tc .smem S1 .f32).access (Rect.unit (s := S1) ![0] S1.size inb_S1_S1_0)).read (Elt F) g x = g (ix1 (0 : Fin 1)) :=
  congrArg g (one_idx _ _)

/-- The handshake: both neighbours signalled, both signals had, its barrier cell closed. -/
theorem barrier_run {inbP : k0_dev1 c < nD} {inbN : k0_dev2 c < nD} {k : PUnit → Prog (TpuEff nD τ sig (Elt F) Λ₀ .tc) α}
    (h : iprop(St m K c 0 0 0 0 0 0 0 0 0 0 0 0 ∗ semVal (barCell c) 0 ∗ R) ⊢ WP c (k ⟨⟩) Q) :
    iprop(St0 m K c ∗ R) ⊢ WP c ((semSignalWord (⟨k0_dev1 c, inbP⟩ : Dev nD) barS 1#32 >>= fun _ =>
      semSignalWord (⟨k0_dev2 c, inbN⟩ : Dev nD) barS 1#32 >>= fun _ => semWaitWord barS 2#32) >>= k) Q := by
  simp only [semSignalWord, semWaitWord, Prog.lift, Prog.bind_op, Prog.bind_ret, Prog.pure_eq_ret]
  rw [show (⟨k0_dev1 c, inbP⟩ : Dev nD) = prv c from Fin.ext (k0_dev1_eq c), show (⟨k0_dev2 c, inbN⟩ : Dev nD) = nxt c from Fin.ext (k0_dev2_eq c)]
  unfold St0 barP pieces
  iintro ⟨⟨#He, ⟨%W, HO⟩, ⟨HcB, HatB, HtP, HtN⟩, ⟨HgP, HgN⟩, HX, HW, H8, HG, HS, HRc, HOf⟩, HR⟩
  iapply (Rounds.wp_signal 𝒱₀ ER (ring m) (c : Thread nD τ) none (dst := (prv c : Thread nD τ)) (κ := K (prv c, 0))
      (d := true) (by rw [duties_bar]; exact Finset.mem_univ _) ((amount_bar m (prv c) true).trans (by decide)) () (O₁ c) rfl) $$ [HO HtP HgP]
  · isplitr; · iapply (inv_bar m K (prv c)); iexact He
    isplitl [HO]; · iexact HO
    isplitl [HtP]; · iexact HtP
    isplitl [HgP]; · rw [payload_bar]; iexact HgP
    iapply (reached_bar m K (prv c)); iexact He
  iintro HO
  unfold O₁
  iapply (Rounds.wp_signal 𝒱₀ ER (ring m) (c : Thread nD τ) none (dst := (nxt c : Thread nD τ)) (κ := K (nxt c, 0))
      (d := false) (by rw [duties_bar]; exact Finset.mem_univ _) ((amount_bar m (nxt c) false).trans (by decide)) () (rem c 12) rfl) $$ [HO HtN HgN]
  · isplitr; · iapply (inv_bar m K (nxt c)); iexact He
    isplitl [HO]; · iexact HO
    isplitl [HtN]; · iexact HtN
    isplitl [HgN]; · rw [payload_bar]; iexact HgN
    iapply (reached_bar m K (nxt c)); iexact He
  iintro HO
  iapply (Rounds.wp_wait_rest_token 𝒱₀ ER (ring m) (c : Thread nD τ) none (κ := K (c, 0))
      (wpE_semWait_eq 𝒱₀ (c : Thread nD τ) none Set.univ) (Set.mem_univ _) () (O := rem c 12) (W := W) (R := 0) (m := 0) (T := ∅)
      (by rw [expect_bar]; decide)) $$ [HcB HO HatB]
  · isplitr; · iapply (inv_bar m K c); iexact He
    isplitl [HcB]; · iexact HcB
    isplitl [HO]; · iexact HO
    isplitr; · iapply (mayWait_bar c); iapply (env_lev m K); iexact He
    iexact HatB
  iintro ⟨HO, HatB, -, Hpay⟩
  ihave Hp := (Entails.of_eq (rest_bar m c)) $$ Hpay
  ihave Hl := (lands (F := F) c) $$ Hp
  imod (Rounds.cell_close ER (ring m) (Set.mem_univ (K (c, 0))) (fun h => h) (R := 0 + 1) (duties_later m (barCell c))) $$ [HatB] with Hz
  · isplitr; · iapply (inv_bar m K c); iexact He
    iexact HatB
  ihave Hs := (famS_start (F := F) c) $$ [HS Hl]
  · isplitl [HS] <;> iassumption
  iapply h
  unfold St owesP
  isplitr [HR Hz]
  · isplitr; · iexact He
    isplitl [HO]; · iexists _; iexact HO
    isplitl [HX]; · iexact HX
    isplitl [HW]; · iexact HW
    isplitl [H8]; · iexact H8
    isplitl [HG]; · iexact HG
    isplitl [Hs]; · iexact Hs
    isplitl [HRc] <;> iassumption
  isplitl [Hz] <;> iassumption

/-- The two scales read. -/
theorem scales_run {g0 g1 : S1.Idx → Elt F .f32} {hn1 hn2 : (Rect.unit (s := S1) ![0] S1.size inb_S1_S1_0).shape.numel = 1} {hp1 hp2 : EltTy.f32.packing = 1} {P : sProp 𝕄}
    {k : Elt F .f32 → Elt F .f32 → Prog (TpuEff nD τ sig (Elt F) Λ₀ .tc) α}
    (h : iprop(P ∗ stg c g0 g1) ⊢ WP c (k (g0 (ix1 (0 : Fin 1))) (g1 (ix1 (0 : Fin 1)))) Q) :
    iprop(P ∗ stg c g0 g1) ⊢ WP c (smemLoad sxM (Rect.unit (s := S1) ![0] S1.size inb_S1_S1_0) hn1 hp1 >>= fun a =>
      smemLoad swM (Rect.unit (s := S1) ![0] S1.size inb_S1_S1_0) hn2 hp2 >>= fun b => k a b) Q := by
  have h' := h
  unfold stg at h' ⊢
  simp only [smemLoad, smemLoadElt, Prog.bind_op, Prog.bind_ret]
  iintro ⟨HP, H0, H1⟩
  iapply (wp_load_rect 𝒱₀ (c : Thread nD τ) none Set.univ (m := sxM) (r := Rect.unit (s := S1) ![0] S1.size inb_S1_S1_0) (S := Finset.univ) (Finset.subset_univ _)) $$ H0
  iintro H0
  iapply (wp_load_rect 𝒱₀ (c : Thread nD τ) none Set.univ (m := swM) (r := Rect.unit (s := S1) ![0] S1.size inb_S1_S1_0) (S := Finset.univ) (Finset.subset_univ _)) $$ H1
  iintro H1
  rw [read_sx, read_sw]
  iapply h'
  isplitl [HP]; · iexact HP
  isplitl [H0] <;> iassumption

theorem part1_run {g0 g1 : S1.Idx → Elt F .f32}
    {k : (Σ' (d0 : Dev nD) (v2 : BitVec 32) (v4 : BitVec 32) (v6 : BitVec 32), F .f32) → Prog (TpuEff nD τ sig (Elt F) Λ₀ .tc) α}
    (hsc : k0_pay1 (g0 (ix1 (0 : Fin 1))) (g1 (ix1 (0 : Fin 1))) = sc m c)
    (h : ∀ b1 b2 b3 : BitVec 32, iprop(St m K c 2 0 0 0 0 0 0 0 0 0 0 0 ∗ semVal (barCell c) 0 ∗ stg c g0 g1) ⊢ WP c (k ⟨c, b1, b2, b3, sc m c⟩) Q) :
    iprop(St0 m K c ∗ stg c g0 g1) ⊢ WP c (k0_part1 xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11 >>= k) Q := by
  simp only [k0_part1_eq_skeleton]; unfold k0_part1_skel
  simp only [Prog.lift, Prog.bind_op, Prog.bind_ret, Prog.pure_eq_ret, Prog.bind_assoc, wp_deviceId]
  have hb := @barrier_run F _ m K c (stg c g0 g1) α Q (k0_dev1_lt c) (k0_dev2_lt c)
  simp only [Prog.bind_assoc] at hb
  refine hb (k := fun _ => _) ?_
  refine assocL.trans ?_
  refine scales_run (k := fun _ _ => _) ?_
  refine assocR.trans ?_
  rw [hsc]
  refine op_xstart m K (0 : Fin 4) rfl (by decide) rfl rfl ?_
  refine op_xstart m K (1 : Fin 4) rfl (by decide) rfl rfl ?_
  exact h _ _ _

set_option maxRecDepth 8000 in
/-- The whole body on device `c`. -/
theorem body_run {g0 g1 : S1.Idx → Elt F .f32} (hsc : k0_pay1 (g0 (ix1 (0 : Fin 1))) (g1 (ix1 (0 : Fin 1))) = sc m c) :
    iprop(St0 m K c ∗ stg c g0 g1) ⊢ WP c (cc0_body xM (Memref.isWhole_whole _) wM (Memref.isWhole_whole _) sxM (Memref.isWhole_whole _) swM (Memref.isWhole_whole _) oM (Memref.isWhole_whole _) gM (Memref.isWhole_whole _) w8M (Memref.isWhole_whole _) wsM (Memref.isWhole_whole _) xsM (Memref.isWhole_whole _) stM (Memref.isWhole_whole _) cc0_scratch5 cc0_scratch6 cc0_scratch7 cc0_scratch8 cc0_scratch9 cc0_scratch10 cc0_scratch11)
      (fun _ => iprop(St m K c 4 4 4 8 8 8 12 12 12 16 16 16 ∗ semVal (barCell c) 0 ∗ stg c g0 g1)) := by
  simp only [cc0_body_eq_skeleton]; unfold cc0_body_skel
  simp only [k0_part30_eq_skeleton]; unfold k0_part30_skel
  simp only [Prog.lift, Prog.bind_assoc, Prog.bind_op, Prog.bind_ret, Prog.pure_eq_ret]
  refine part1_run m K hsc (fun _ _ _ => ?_)
  refine part2_run m K ?_
  refine part3_run m K (fun _ => ?_)
  refine part4_run m K ?_
  refine part5_run m K (fun _ => ?_)
  refine part6_run m K (fun _ _ _ => ?_)
  refine part7_run m K ?_
  refine part8_run m K ?_
  refine part9_run m K ?_
  refine part10_run m K (fun _ => ?_)
  refine part11_run m K ?_
  refine part12_run m K (fun _ => ?_)
  refine part13_run m K ?_
  refine part14_run m K ?_
  refine part15_run m K ?_
  refine part16_run m K ?_
  refine part17_run m K ?_
  refine part18_run m K (fun _ => ?_)
  refine part19_run m K ?_
  refine part20_run m K (fun _ => ?_)
  refine part21_run m K ?_
  refine part22_run m K ?_
  refine part23_run m K ?_
  refine part24_run m K ?_
  refine part25_run m K ?_
  refine part26_run m K (fun _ => ?_)
  refine part27_run m K (fun _ => ?_)
  refine part28_run m K ?_
  refine part29_run m K ?_
  refine op_swait m K (8 : Fin 12) rfl (by decide) (by decide) rfl (credit_g _ _) ?_
  refine op_swait m K (9 : Fin 12) rfl (by decide) (by decide) rfl (credit_g _ _) ?_
  refine op_swait m K (10 : Fin 12) rfl (by decide) (by decide) rfl (credit_g _ _) ?_
  refine op_swait m K (11 : Fin 12) rfl (by decide) (by decide) rfl (credit_g _ _) ?_
  refine op_owait m K (14 : Fin 16) rfl (by decide) (by decide) (by decide) (0 : Fin 2) rfl rfl (credit_o _ _ (oSem 0)) ?_
  refine op_owait m K (15 : Fin 16) rfl (by decide) (by decide) (by decide) (1 : Fin 2) rfl rfl (credit_o _ _ (oSem 0)) ?_

  exact fupd_intro

end Cert.RingMM
-- ==== Proof.Pieces.lean ====
/-
# Between whole buffers and pieces

Before the body each device's whole buffers are cut into the pieces of the families' first stages; after it the pieces of their last stages make
the whole buffers again.
-/
module

public import proofs.«01_k».proof.Proof.Body

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Cutting and joining -/

omit [FloatOps F] in
/-- A part of a buffer is its pieces, if they are disjoint and make it up. -/
theorem cutS {n : ℕ} {ℓ : Loc nD τ sig} (K : Fin n → Finset (Idx ℓ)) (S : Finset (Idx ℓ)) (hd : ∀ s t, s ≠ t → Disjoint (K s) (K t))
    (hS : ∀ i, i ∈ S ↔ ∃ t, i ∈ K t) (f : Buf (Elt F) ℓ) :
    (ℓ ↦[S]{fullShare} f : sProp 𝕄) = bigSep Finset.univ fun t => ℓ ↦[K t]{fullShare} f := by
  rw [← pointsTo_biUnion Finset.univ K fun s _ t _ => hd s t]
  exact pts_set (Finset.ext fun i => (hS i).trans ⟨fun ⟨t, ht⟩ => Finset.mem_biUnion.2 ⟨t, Finset.mem_univ _, ht⟩,
    fun h => (Finset.mem_biUnion.1 h).imp fun _ h => h.2⟩)

omit [FloatOps F] in
/-- A whole buffer is its pieces, if they are disjoint and cover it. -/
theorem cut {n : ℕ} {ℓ : Loc nD τ sig} (K : Fin n → Finset (Idx ℓ)) (hd : ∀ s t, s ≠ t → Disjoint (K s) (K t)) (hc : ∀ i, ∃ t, i ∈ K t)
    (f : Buf (Elt F) ℓ) : (ℓ ↦{fullShare} f : sProp 𝕄) = bigSep Finset.univ fun t => ℓ ↦[K t]{fullShare} f :=
  cutS K Finset.univ hd (fun i => ⟨fun _ => hc i, fun _ => Finset.mem_univ _⟩) f

omit [FloatOps F] in
/-- Pieces with any contents make the whole buffer with some contents. -/
theorem join {n : ℕ} {ℓ : Loc nD τ sig} (K : Fin n → Finset (Idx ℓ)) (hd : ∀ s t, s ≠ t → Disjoint (K s) (K t)) (hc : ∀ i, ∃ t, i ∈ K t)
    (f₀ : Buf (Elt F) ℓ) : (bigSep Finset.univ fun t => iprop(∃ f : Buf (Elt F) ℓ, ℓ ↦[K t]{fullShare} f)) ⊢ (iprop(∃ f : Buf (Elt F) ℓ, ℓ ↦{fullShare} f) : sProp 𝕄) := by
  haveI : Nonempty (Buf (Elt F) ℓ) := ⟨f₀⟩
  iintro H
  ihave H := (BI.bigSep_exists_pi Finset.univ (fun (t : Fin n) (f : Buf (Elt F) ℓ) => (ℓ ↦[K t]{fullShare} f : sProp 𝕄))) $$ H
  icases H with ⟨%fs, H⟩
  ihave H := (pointsTo_biUnion_join Finset.univ K fs f₀ fun s _ t _ => hd s t) $$ H
  icases H with ⟨%g, -, H⟩
  iexists g
  iapply (Entails.of_eq (pts_set (F := F) (Finset.ext fun i => by
    obtain ⟨t, ht⟩ := hc i
    exact ⟨fun _ => Finset.mem_univ _, fun _ => Finset.mem_biUnion.2 ⟨t, Finset.mem_univ _, ht⟩⟩)))
  iexact H

omit [FloatOps F] in
/-- A family's first members, and the others. -/
theorem fam_add (a b : ℕ) (Φ : ℕ → sProp 𝕄) :
    (bigSep Finset.univ fun i : Fin (a + b) => Φ i) = iprop((bigSep Finset.univ fun i : Fin a => Φ i) ∗ bigSep Finset.univ fun j : Fin b => Φ (j + a)) := by
  rw [bigSep_univ_equiv finSumFinEquiv (fun i : Fin (a + b) => Φ i), bigSep_univ_sum]
  refine congrArg₂ (fun A B : sProp 𝕄 => iprop(A ∗ B)) (bigSep_congr fun i _ => rfl) (bigSep_congr fun j _ => ?_)
  exact congrArg Φ (Nat.add_comm _ _)

omit [FloatOps F] in
theorem fin2 (Φ : Fin 2 → sProp 𝕄) : bigSep Finset.univ Φ = iprop(Φ 0 ∗ Φ 1) := bigSep_univ_eq_bigSepL [0, 1] (by decide) (by decide) Φ

omit [FloatOps F] in
theorem emp_fam {n : ℕ} (Φ : Fin n → sProp 𝕄) (h : ∀ i, Φ i = iprop(emp)) : bigSep Finset.univ Φ = iprop(emp) :=
  (bigSep_congr fun i _ => h i).trans (bigSep_emp_const _)

omit [FloatOps F] in
theorem dropEmpL {A : sProp 𝕄} : iprop(emp ∗ A) ⊢ A := by iintro ⟨-, H⟩; iexact H
omit [FloatOps F] in
theorem addEmpL {A : sProp 𝕄} : A ⊢ iprop(emp ∗ A) := by
  iintro H; isplitr; · iempintro
  iexact H
omit [FloatOps F] in
theorem addEmpR {A : sProp 𝕄} : A ⊢ iprop(A ∗ emp) := by
  iintro H; isplitl; · iexact H
  iempintro
omit [FloatOps F] in
theorem dropEmpR {A : sProp 𝕄} : iprop(A ∗ emp) ⊢ A := by iintro ⟨H, -⟩; iexact H

omit [FloatOps F] in
theorem via {A B C : sProp 𝕄} (h₁ : A ⊢ B) (h₂ : B ⊢ C) : A ⊢ C := h₁.trans h₂

omit [FloatOps F] in
theorem each {n : ℕ} {Φ Ψ : Fin n → sProp 𝕄} (h : ∀ i, Φ i ⊢ Ψ i) : bigSep Finset.univ Φ ⊢ bigSep Finset.univ Ψ := bigSep_mono fun i _ => h i
omit [FloatOps F] in
theorem some_w (c : Dev nD) (p : ℕ) (f : S2x512x2048.Idx → Elt F .f32) : wslot c p f ⊢ (iprop(∃ f, wslot c p f) : sProp 𝕄) := by
  iintro H; iexists f; iexact H
omit [FloatOps F] in
theorem some_o (c : Dev nD) (p : ℕ) (f : S2x256x2048.Idx → Elt F .f32) : oslot c p f ⊢ (iprop(∃ f, oslot c p f) : sProp 𝕄) := by
  iintro H; iexists f; iexact H

/-- A local semaphore at zero. -/
abbrev zero (c : Dev nD) (s : DmaSem sig) : sProp 𝕄 := semVal ((c : Thread nD τ), .dma s) 0

/-! ## The pieces' geometry -/

theorem slot_cover {K R n : ℕ} (i : (⟨3, ![K, R, n]⟩ : Shape).Idx) : ∃ t : Fin K, i ∈ slot K R n t := ⟨(i 0 : Fin K), mem_slot.2 rfl⟩
theorem slot_apart {K R n : ℕ} (s t : Fin K) (h : s ≠ t) : Disjoint (slot K R n s) (slot K R n t) := slot_disjoint fun e => h (Fin.ext e)

theorem quarter_cover (i : S1024x4096.Idx) : ∃ t : Fin 4, i ∈ rows 1024 4096 t := by
  have h : (i 0 : ℕ) < 1024 := (i 0).isLt
  exact ⟨⟨(i 0 : ℕ) / 256, by omega⟩, mem_rows.2 (by show 256 * ((i 0 : ℕ) / 256) ≤ _ ∧ _ < 256 * ((i 0 : ℕ) / 256) + 256; omega)⟩

theorem blk_onto : ∀ (c : Dev nD) (a : Fin 16), ∃ s : Fin 16, blk c s = a := by decide
theorem ord_lt : ∀ n : Fin 16, ord n < 16 := by decide
theorem ord_inv : ∀ n : Fin 16, ord (ord n) = n := by decide

theorem row_block {n : ℕ} (i : (⟨2, ![4096, n]⟩ : Shape).Idx) : ∃ a : Fin 16, i ∈ rows 4096 n a := by
  have h : (i 0 : ℕ) < 4096 := (i 0).isLt
  exact ⟨⟨(i 0 : ℕ) / 256, by omega⟩, mem_rows.2 (by show 256 * ((i 0 : ℕ) / 256) ≤ _ ∧ _ < 256 * ((i 0 : ℕ) / 256) + 256; omega)⟩

theorem blk_cover {n : ℕ} (c : Dev nD) (i : (⟨2, ![4096, n]⟩ : Shape).Idx) : ∃ s : Fin 16, i ∈ rows 4096 n (blk c s) := by
  obtain ⟨a, ha⟩ := row_block i; obtain ⟨s, hs⟩ := blk_onto c a; exact ⟨s, by rw [hs]; exact ha⟩
theorem blk_apart {n : ℕ} (c : Dev nD) (s t : Fin 16) (h : s ≠ t) : Disjoint (rows 4096 n (blk c s)) (rows 4096 n (blk c t)) :=
  rows_disjoint fun e => h (blk_inj c s t e)
theorem ord_cover {n : ℕ} (c : Dev nD) (i : (⟨2, ![4096, n]⟩ : Shape).Idx) : ∃ s : Fin 16, i ∈ rows 4096 n (blk c (ord s)) := by
  obtain ⟨s, hs⟩ := blk_cover c i
  exact ⟨⟨ord s, ord_lt s⟩, by show i ∈ rows 4096 n (blk c (ord (ord s))); rw [ord_inv]; exact hs⟩
theorem ord_apart {n : ℕ} (c : Dev nD) (s t : Fin 16) (h : s ≠ t) : Disjoint (rows 4096 n (blk c (ord s))) (rows 4096 n (blk c (ord t))) :=
  rows_disjoint fun e => h (Fin.ext (by
    have h1 := congrArg Fin.val (blk_inj c ⟨ord s, ord_lt s⟩ ⟨ord t, ord_lt t⟩ e)
    exact (ord_inv s).symm.trans ((congrArg ord h1).trans (ord_inv t))))

/-! ## The staging of `x` -/

theorem stX_first : ∀ q : Fin 4, stX 0 0 q = 0 := by decide
theorem stX_last : ∀ q : Fin 4, stX 4 4 q = 2 := by decide

omit [FloatOps F] in
theorem xslots (f : S4x256x4096.Idx → Elt F .f32) :
    ((c : Thread nD τ).loc cc0_scratch3 ↦{fullShare} f : sProp 𝕄) = bigSep Finset.univ fun q : Fin 4 => xslot c q f :=
  cut (ℓ := (c : Thread nD τ).loc cc0_scratch3) (fun q : Fin 4 => slot 4 256 4096 q) slot_apart slot_cover f
omit [FloatOps F] in
theorem xsrcs : ((c : Thread nD τ).loc main_arg0 ↦{fullShare} X m c : sProp 𝕄) = bigSep Finset.univ fun q : Fin 4 => xsrc m c q :=
  cut (ℓ := (c : Thread nD τ).loc main_arg0) (fun q : Fin 4 => rows 1024 4096 q) (fun s t h => rows_disjoint fun e => h (Fin.ext e)) quarter_cover (X m c)

theorem pX_first (q : Fin 4) (f : S4x256x4096.Idx → Elt F .f32) : iprop(xslot c q f ∗ zero (F := F) c (xSem q) ∗ xsrc m c q) ⊢ pX m c q 0 := by
  simp only [pX]
  iintro ⟨H1, H⟩; isplitl [H1]; · (iexists f; iexact H1)
  iexact H
theorem famX_first (f : S4x256x4096.Idx → Elt F .f32) :
    iprop(((c : Thread nD τ).loc cc0_scratch3 ↦{fullShare} f) ∗ (bigSep Finset.univ fun q : Fin 4 => zero (F := F) c (xSem q))
      ∗ ((c : Thread nD τ).loc main_arg0 ↦{fullShare} X m c)) ⊢ famX m c 0 0 := by
  rw [xslots, xsrcs, ← bigSep_sep', ← bigSep_sep']
  unfold famX
  exact bigSep_mono fun q _ => by rw [stX_first]; exact pX_first m c q f
theorem pX_last (q : Fin 4) : pX m c q 2 ⊢ iprop(xslot c q (XS m c) ∗ zero (F := F) c (xSem q) ∗ xsrc m c q) := by
  simp only [pX]; iintro H; iexact H
theorem famX_last :
    famX m c 4 4 ⊢ iprop(((c : Thread nD τ).loc cc0_scratch3 ↦{fullShare} XS m c) ∗ (bigSep Finset.univ fun q : Fin 4 => zero (F := F) c (xSem q))
      ∗ ((c : Thread nD τ).loc main_arg0 ↦{fullShare} X m c)) := by
  rw [xslots, xsrcs, ← bigSep_sep', ← bigSep_sep']
  unfold famX
  exact bigSep_mono fun q _ => by rw [stX_last]; exact pX_last m c q

/-! ## The staging of `w` -/

omit [FloatOps F] in
theorem wslots (f : S2x512x2048.Idx → Elt F .f32) :
    ((c : Thread nD τ).loc cc0_scratch2 ↦{fullShare} f : sProp 𝕄) = bigSep Finset.univ fun p : Fin 2 => wslot c p f :=
  cut (ℓ := (c : Thread nD τ).loc cc0_scratch2) (fun p : Fin 2 => slot 2 512 2048 p) slot_apart slot_cover f
omit [FloatOps F] in
include m in
theorem wslots_join : (bigSep Finset.univ fun p : Fin 2 => iprop(∃ f, wslot c p f)) ⊢ (iprop(∃ f, (c : Thread nD τ).loc cc0_scratch2 ↦{fullShare} f) : sProp 𝕄) :=
  join (ℓ := (c : Thread nD τ).loc cc0_scratch2) (fun p : Fin 2 => slot 2 512 2048 p) slot_apart slot_cover (m _)

/-- Device `c`'s columns of `w`, all rows. -/
def wcols (c : ℕ) : Finset S4096x8192.Idx := Finset.univ.filter fun i => 2048 * c ≤ (i 1 : ℕ) ∧ (i 1 : ℕ) < 2048 * c + 2048
theorem mem_wcols {c : ℕ} (i : S4096x8192.Idx) : i ∈ wcols c ↔ ∃ n : Fin 8, i ∈ wset c n := by
  have h : (i 0 : ℕ) < 4096 := (i 0).isLt
  unfold wcols
  rw [Finset.mem_filter]
  exact ⟨fun h' => ⟨⟨(i 0 : ℕ) / 512, by omega⟩, mem_wset.2 ⟨by show 512 * ((i 0 : ℕ) / 512) ≤ _ ∧ _ < 512 * ((i 0 : ℕ) / 512) + 512; omega, h'.2⟩⟩,
    fun ⟨n, hn⟩ => ⟨Finset.mem_univ _, (mem_wset.1 hn).2⟩⟩
/-- The columns of `w` the body leaves alone. -/
def wrest : sProp 𝕄 := (c : Thread nD τ).loc main_arg1 ↦[Finset.univ \ wcols c.val]{fullShare} Wm m c

omit [FloatOps F] in
theorem wsrcs : ((c : Thread nD τ).loc main_arg1 ↦[wcols c.val]{fullShare} Wm m c : sProp 𝕄) = bigSep Finset.univ fun n : Fin 8 => wsrc m c n :=
  cutS (ℓ := (c : Thread nD τ).loc main_arg1) (fun n : Fin 8 => wset c.val n) (wcols c.val) (fun s t h => wset_disjoint fun e => h (Fin.ext e)) mem_wcols (Wm m c)
omit [FloatOps F] in
theorem w_cut : ((c : Thread nD τ).loc main_arg1 ↦{fullShare} Wm m c : sProp 𝕄) ⊢ iprop((bigSep Finset.univ fun n : Fin 8 => wsrc m c n) ∗ wrest m c) := by
  rw [← wsrcs]; unfold wrest; exact (pointsTo_split_subset (Finset.subset_univ _)).1
omit [FloatOps F] in
theorem w_join : iprop((bigSep Finset.univ fun n : Fin 8 => wsrc m c n) ∗ wrest m c) ⊢ ((c : Thread nD τ).loc main_arg1 ↦{fullShare} Wm m c : sProp 𝕄) := by
  rw [← wsrcs]; unfold wrest; exact (pointsTo_split_subset (Finset.subset_univ _)).2

theorem stW_first : ∀ i : Fin 10, stW 0 0 i = if (i : ℕ) < 2 then 2 else 0 := by decide
theorem stW_last : ∀ i : Fin 10, stW 8 8 i = if 8 ≤ (i : ℕ) then 2 else 3 := by decide

omit [FloatOps F] in
theorem wsrc'_fam : (bigSep Finset.univ fun i : Fin 10 => wsrc' m c i) = bigSep Finset.univ fun n : Fin 8 => wsrc m c n := by
  refine (fam_add 2 8 (wsrc' m c)).trans ?_
  rw [emp_fam (fun i : Fin 2 => wsrc' m c i) fun i => if_neg (by omega)]
  rw [show (fun j : Fin 8 => wsrc' m c (j + 2)) = fun j : Fin 8 => wsrc m c j from funext fun j => if_pos (by omega)]
  exact BI.equiv_iff.mp BI.emp_sep

/-- A slot of the staging of `w`, idle. -/
def widle (p : ℕ) : sProp 𝕄 := iprop((∃ f, wslot (F := F) c p f) ∗ zero (F := F) c (wSem p))
def widle0 (i : ℕ) : sProp 𝕄 := if i < 2 then widle (F := F) c (i % 2) else iprop(emp)
def widle8 (i : ℕ) : sProp 𝕄 := if 8 ≤ i then widle (F := F) c (i % 2) else iprop(emp)

theorem pW_first (i : Fin 10) : iprop(wsrc' m c i ∗ widle0 (F := F) c i) ⊢ pW m c i (stW 0 0 i) := by
  rw [stW_first]; unfold widle0
  by_cases h : (i : ℕ) < 2
  · rw [if_pos h, if_pos h, pW_2]; unfold widle
    iintro ⟨H, ⟨%f, Hf⟩, Hz⟩
    isplitl [Hf]
    · iexists f; isplitr; · (ipureintro; intro h'; omega)
      iexact Hf
    isplitl [Hz] <;> iassumption
  · rw [if_neg h, if_neg h, pW_0]; exact dropEmpR
theorem pW_last (i : Fin 10) : pW m c i (stW 8 8 i) ⊢ iprop(wsrc' m c i ∗ widle8 (F := F) c i) := by
  rw [stW_last]; unfold widle8
  by_cases h : 8 ≤ (i : ℕ)
  · rw [if_pos h, if_pos h, pW_2]; unfold widle
    iintro ⟨⟨%f, -, Hf⟩, Hz, H⟩
    isplitl [H]; · iexact H
    isplitl [Hf]; · (iexists f; iexact Hf)
    iexact Hz
  · rw [if_neg h, if_neg h, pW_3]; exact addEmpR

omit [FloatOps F] in
theorem widle0_fam : (bigSep Finset.univ fun p : Fin 2 => widle (F := F) c p) ⊢ bigSep Finset.univ fun i : Fin 10 => widle0 (F := F) c i := by
  refine via ?_ (Entails.of_eq (fam_add 2 8 (widle0 (F := F) c)).symm)
  rw [emp_fam (fun j : Fin 8 => widle0 (F := F) c (j + 2)) fun j => if_neg (by omega)]
  rw [show (fun j : Fin 2 => widle0 (F := F) c j) = fun j : Fin 2 => widle c j from funext fun j => by
    unfold widle0; rw [if_pos j.isLt, Nat.mod_eq_of_lt j.isLt]]
  exact addEmpR
omit [FloatOps F] in
theorem widle8_fam : (bigSep Finset.univ fun i : Fin 10 => widle8 (F := F) c i) ⊢ bigSep Finset.univ fun p : Fin 2 => widle (F := F) c p := by
  refine via (Entails.of_eq (fam_add 8 2 (widle8 (F := F) c))) ?_
  rw [emp_fam (fun j : Fin 8 => widle8 (F := F) c j) fun j => if_neg (by omega)]
  rw [show (fun j : Fin 2 => widle8 (F := F) c (j + 8)) = fun j : Fin 2 => widle c j from funext fun j => by
    unfold widle8; rw [if_pos (by omega), show ((j : ℕ) + 8) % 2 = j by omega]]
  exact dropEmpL

theorem famW_first (f : S2x512x2048.Idx → Elt F .f32) :
    iprop(((c : Thread nD τ).loc cc0_scratch2 ↦{fullShare} f) ∗ (bigSep Finset.univ fun p : Fin 2 => zero (F := F) c (wSem p))
      ∗ bigSep Finset.univ fun n : Fin 8 => wsrc m c n) ⊢ famW m c 0 0 := by
  rw [wslots, ← wsrc'_fam]
  unfold famW
  refine via ?_ (bigSep_mono fun i _ => pW_first m c i)
  rw [bigSep_sep']
  iintro ⟨H1, H2, H3⟩
  isplitl [H3]; · iexact H3
  iapply (widle0_fam (F := F) c)
  unfold widle
  rw [bigSep_sep']
  isplitl [H1]
  · iapply (each (F := F) fun p : Fin 2 => some_w c p f)
    iexact H1
  iexact H2
theorem famW_last :
    famW m c 8 8 ⊢ iprop((∃ f, (c : Thread nD τ).loc cc0_scratch2 ↦{fullShare} f) ∗ (bigSep Finset.univ fun p : Fin 2 => zero (F := F) c (wSem p))
      ∗ bigSep Finset.univ fun n : Fin 8 => wsrc m c n) := by
  rw [← wsrc'_fam]
  unfold famW
  refine via (bigSep_mono fun i _ => pW_last m c i) ?_
  rw [bigSep_sep']
  iintro ⟨H3, H⟩
  ihave H := (widle8_fam (F := F) c) $$ H
  unfold widle
  ihave H := (Entails.of_eq (bigSep_sep' Finset.univ (fun p : Fin 2 => iprop(∃ f, wslot (F := F) c p f)) (fun p : Fin 2 => zero (F := F) c (wSem p)))) $$ H
  icases H with ⟨H1, H2⟩
  isplitl [H1]; · iapply (wslots_join m c); iexact H1
  isplitl [H2] <;> iassumption

/-! ## The result -/

omit [FloatOps F] in
theorem oslots (f : S2x256x2048.Idx → Elt F .f32) :
    ((c : Thread nD τ).loc cc0_scratch4 ↦{fullShare} f : sProp 𝕄) = bigSep Finset.univ fun p : Fin 2 => oslot c p f :=
  cut (ℓ := (c : Thread nD τ).loc cc0_scratch4) (fun p : Fin 2 => slot 2 256 2048 p) slot_apart slot_cover f
omit [FloatOps F] in
include m in
theorem oslots_join : (bigSep Finset.univ fun p : Fin 2 => iprop(∃ f, oslot c p f)) ⊢ (iprop(∃ f, (c : Thread nD τ).loc cc0_scratch4 ↦{fullShare} f) : sProp 𝕄) :=
  join (ℓ := (c : Thread nD τ).loc cc0_scratch4) (fun p : Fin 2 => slot 2 256 2048 p) slot_apart slot_cover (m _)
omit [FloatOps F] in
theorem odsts (f : S4096x2048.Idx → Elt F .f32) :
    ((c : Thread nD τ).loc main_v1 ↦{fullShare} f : sProp 𝕄) = bigSep Finset.univ fun n : Fin 16 => odst c (blk c (ord n)) f :=
  cut (ℓ := (c : Thread nD τ).loc main_v1) (fun n : Fin 16 => rows 4096 2048 (blk c (ord n))) (ord_apart c) (ord_cover c) f

theorem stO_first : ∀ i : Fin 18, stO 0 0 0 i = if (i : ℕ) < 2 then 3 else 0 := by decide
theorem stO_last : ∀ i : Fin 18, stO 16 16 16 i = if 16 ≤ (i : ℕ) then 3 else 4 := by decide

/-- A slot of the result's staging, idle. -/
def oidle (p : ℕ) : sProp 𝕄 := iprop((∃ f, oslot (F := F) c p f) ∗ zero (F := F) c (oSem p))
def oidle0 (i : ℕ) : sProp 𝕄 := if i < 2 then oidle (F := F) c (i % 2) else iprop(emp)
def oidle16 (i : ℕ) : sProp 𝕄 := if 16 ≤ i then oidle (F := F) c (i % 2) else iprop(emp)
/-- The place of block `i - 2` of the result, not yet written. -/
def ofree (f : S4096x2048.Idx → Elt F .f32) (i : ℕ) : sProp 𝕄 := if 2 ≤ i then odst c (ob c i) f else iprop(emp)

theorem pO_first (f : S4096x2048.Idx → Elt F .f32) (i : Fin 18) : iprop(ofree c f i ∗ oidle0 (F := F) c i) ⊢ pO m c i (stO 0 0 0 i) := by
  rw [stO_first]; unfold oidle0 ofree
  by_cases h : (i : ℕ) < 2
  · rw [if_pos h, if_pos h, if_neg (by omega), pO_3]; unfold oidle odone
    rw [if_neg (by omega)]
    iintro ⟨H, Hf, Hz⟩
    isplitl [H]; · iexact H
    isplitl [Hz] <;> iassumption
  · rw [if_neg h, if_neg h, if_pos (by omega), pO_0 m c i (by omega)]
    iintro ⟨H, -⟩; iexists f; iexact H
theorem pO_last (i : Fin 18) : pO m c i (stO 16 16 16 i) ⊢ iprop(odone m c i ∗ oidle16 (F := F) c i) := by
  rw [stO_last]; unfold oidle16
  by_cases h : 16 ≤ (i : ℕ)
  · rw [if_pos h, if_pos h, pO_3]; unfold oidle
    iintro ⟨H, Hz, Hf⟩
    isplitl [H]; · iexact H
    isplitl [Hf] <;> iassumption
  · rw [if_neg h, if_neg h, pO_4]; exact addEmpR

omit [FloatOps F] in
theorem ofree_fam (f : S4096x2048.Idx → Elt F .f32) :
    (bigSep Finset.univ fun n : Fin 16 => odst c (blk c (ord n)) f) ⊢ (bigSep Finset.univ fun i : Fin 18 => ofree c f i : sProp 𝕄) := by
  refine via ?_ (Entails.of_eq (fam_add 2 16 (ofree c f)).symm)
  rw [emp_fam (fun j : Fin 2 => ofree c f j) fun j => if_neg (by omega)]
  rw [show (fun j : Fin 16 => ofree c f (j + 2)) = fun j : Fin 16 => odst c (blk c (ord j)) f from funext fun j => if_pos (by omega)]
  exact addEmpL
theorem odone_fam : (bigSep Finset.univ fun i : Fin 18 => odone m c i) ⊢ (bigSep Finset.univ fun n : Fin 16 => odst c (blk c (ord n)) (OUT m c) : sProp 𝕄) := by
  refine via (Entails.of_eq (fam_add 2 16 (odone m c))) ?_
  rw [emp_fam (fun j : Fin 2 => odone m c j) fun j => if_neg (by omega)]
  rw [show (fun j : Fin 16 => odone m c (j + 2)) = fun j : Fin 16 => odst c (blk c (ord j)) (OUT m c) from funext fun j => if_pos (by omega)]
  exact dropEmpL
omit [FloatOps F] in
theorem oidle0_fam : (bigSep Finset.univ fun p : Fin 2 => oidle (F := F) c p) ⊢ bigSep Finset.univ fun i : Fin 18 => oidle0 (F := F) c i := by
  refine via ?_ (Entails.of_eq (fam_add 2 16 (oidle0 (F := F) c)).symm)
  rw [emp_fam (fun j : Fin 16 => oidle0 (F := F) c (j + 2)) fun j => if_neg (by omega)]
  rw [show (fun j : Fin 2 => oidle0 (F := F) c j) = fun j : Fin 2 => oidle c j from funext fun j => by
    unfold oidle0; rw [if_pos j.isLt, Nat.mod_eq_of_lt j.isLt]]
  exact addEmpR
omit [FloatOps F] in
theorem oidle16_fam : (bigSep Finset.univ fun i : Fin 18 => oidle16 (F := F) c i) ⊢ bigSep Finset.univ fun p : Fin 2 => oidle (F := F) c p := by
  refine via (Entails.of_eq (fam_add 16 2 (oidle16 (F := F) c))) ?_
  rw [emp_fam (fun j : Fin 16 => oidle16 (F := F) c j) fun j => if_neg (by omega)]
  rw [show (fun j : Fin 2 => oidle16 (F := F) c (j + 16)) = fun j : Fin 2 => oidle c j from funext fun j => by
    unfold oidle16; rw [if_pos (by omega), show ((j : ℕ) + 16) % 2 = j by omega]]
  exact dropEmpL

theorem famO_first (f : S2x256x2048.Idx → Elt F .f32) (g : S4096x2048.Idx → Elt F .f32) :
    iprop(((c : Thread nD τ).loc cc0_scratch4 ↦{fullShare} f) ∗ (bigSep Finset.univ fun p : Fin 2 => zero (F := F) c (oSem p))
      ∗ ((c : Thread nD τ).loc main_v1 ↦{fullShare} g)) ⊢ famO m c 0 0 0 := by
  rw [oslots, odsts]
  unfold famO
  refine via ?_ (bigSep_mono fun i _ => pO_first m c g i)
  rw [bigSep_sep']
  iintro ⟨H1, H2, H3⟩
  isplitl [H3]; · iapply (ofree_fam c g); iexact H3
  iapply (oidle0_fam (F := F) c)
  unfold oidle
  rw [bigSep_sep']
  isplitl [H1]
  · iapply (each (F := F) fun p : Fin 2 => some_o c p f)
    iexact H1
  iexact H2
theorem famO_last :
    famO m c 16 16 16 ⊢ iprop((∃ f, (c : Thread nD τ).loc cc0_scratch4 ↦{fullShare} f) ∗ (bigSep Finset.univ fun p : Fin 2 => zero (F := F) c (oSem p))
      ∗ ((c : Thread nD τ).loc main_v1 ↦{fullShare} OUT m c)) := by
  rw [odsts]
  unfold famO
  refine via (bigSep_mono fun i _ => pO_last m c i) ?_
  rw [bigSep_sep']
  iintro ⟨H3, H⟩
  ihave H := (oidle16_fam (F := F) c) $$ H
  unfold oidle
  ihave H := (Entails.of_eq (bigSep_sep' Finset.univ (fun p : Fin 2 => iprop(∃ f, oslot (F := F) c p f)) (fun p : Fin 2 => zero (F := F) c (oSem p)))) $$ H
  icases H with ⟨H1, H2⟩
  isplitl [H1]; · iapply (oslots_join m c); iexact H1
  isplitl [H2]; · iexact H2
  iapply (odone_fam m c); iexact H3

/-! ## The eight-bit columns and the gathered rows -/

theorem w8_first (f : S4096x2048.Idx → Elt F .fp8e4m3) : ((c : Thread nD τ).loc cc0_scratch1 ↦{fullShare} f) ⊢ w8P m c 0 := by
  unfold w8P
  iintro H; iexists f; isplitr; · (ipureintro; intro i h; omega)
  iexact H
theorem w8_last (n : ℕ) : w8P m c n ⊢ iprop(∃ f, (c : Thread nD τ).loc cc0_scratch1 ↦{fullShare} f) := by
  unfold w8P
  iintro ⟨%f, -, H⟩; iexists f; iexact H

omit [FloatOps F] in
theorem gslots (f : S4096x4096.Idx → Elt F .fp8e4m3) :
    ((c : Thread nD τ).loc cc0_scratch0 ↦{fullShare} f : sProp 𝕄) = bigSep Finset.univ fun s : Fin 16 => gpts c (blk c s) fullShare f :=
  cut (ℓ := (c : Thread nD τ).loc cc0_scratch0) (fun s : Fin 16 => rows 4096 4096 (blk c s)) (blk_apart c) (blk_cover c) f

theorem stG_first : ∀ s : Fin 16, stG 0 0 0 0 s = 0 := by decide
theorem stG_last : ∀ s : Fin 16, stG 4 12 12 12 s = 1 := by decide

/-- Slot `s` of the gathered rows, one of the four own ones, not yet stored. -/
def gown (f : S4096x4096.Idx → Elt F .fp8e4m3) (s : ℕ) : sProp 𝕄 := if s < 4 then gpts c (blk c s) fullShare f else iprop(emp)

theorem pG_first (f : S4096x4096.Idx → Elt F .fp8e4m3) (s : Fin 16) : gown c f s ⊢ pG m c s 0 := by
  unfold gown
  by_cases h : (s : ℕ) < 4
  · rw [if_pos h, pG_0 m c s h]; iintro H; iexists f; iexact H
  · rw [if_neg h, pG_0' m c s h]
theorem pG_first' (f : S4096x4096.Idx → Elt F .fp8e4m3) (s : Fin 16) : gown c f s ⊢ pG m c s (stG 0 0 0 0 s) := by
  rw [stG_first]; exact pG_first m c f s
omit [FloatOps F] in
theorem gown_fam (f : S4096x4096.Idx → Elt F .fp8e4m3) :
    (bigSep Finset.univ fun s : Fin 4 => gpts c (blk c s) fullShare f) ⊢ (bigSep Finset.univ fun s : Fin 16 => gown c f s : sProp 𝕄) := by
  refine via ?_ (Entails.of_eq (fam_add 4 12 (gown c f)).symm)
  rw [emp_fam (fun j : Fin 12 => gown c f (j + 4)) fun j => if_neg (by omega)]
  rw [show (fun j : Fin 4 => gown c f j) = fun j : Fin 4 => gpts c (blk c j) fullShare f from funext fun j => if_pos j.isLt]
  exact addEmpR

omit [FloatOps F] in
/-- Slot `y + 4` is the place transfer `y` of the neighbour it comes from lands at. -/
theorem land_place (y : Fin 12) (f : S4096x4096.Idx → Elt F .fp8e4m3) : (gpts c (blk c (y + 4)) fullShare f : sProp 𝕄) ⊢ land (F := F) (src c y) y := by
  unfold land
  rw [dst_src, blk_src]
  iintro H; iexists f; iexact H
omit [FloatOps F] in
theorem land_prv (n : ℕ) (h : n % 2 = 0) : (land (F := F) (src c n) n : sProp 𝕄) = land (prv c) n := by rw [src, if_pos h]
omit [FloatOps F] in
theorem land_nxt (n : ℕ) (h : n % 2 = 1) : (land (F := F) (src c n) n : sProp 𝕄) = land (nxt c) n := by rw [src, if_neg (by omega)]

omit [FloatOps F] in
theorem lands_dealt : (bigSep Finset.univ fun y : Fin 12 => land (F := F) (src c y) y) ⊢ iprop(barPay (F := F) (prv c) true ∗ barPay (F := F) (nxt c) false) := by
  unfold barPay
  rw [fin6, fin6, fin12]
  iintro ⟨H0, H2, H4, H6, H8, H10, H1, H3, H5, H7, H9, H11⟩
  isplitl [H0 H2 H4 H6 H8 H10]
  · isplitl [H0]; · iexact H0
    isplitl [H2]; · iexact H2
    isplitl [H4]; · iexact H4
    isplitl [H6]; · iexact H6
    isplitl [H8]; · iexact H8
    iexact H10
  isplitl [H1]; · iexact H1
  isplitl [H3]; · iexact H3
  isplitl [H5]; · iexact H5
  isplitl [H7]; · iexact H7
  isplitl [H9]; · iexact H9
  iexact H11

theorem famG_first (f : S4096x4096.Idx → Elt F .fp8e4m3) :
    ((c : Thread nD τ).loc cc0_scratch0 ↦{fullShare} f : sProp 𝕄)
      ⊢ iprop(famG m c 0 0 0 0 ∗ barPay (F := F) (prv c) true ∗ barPay (F := F) (nxt c) false) := by
  rw [gslots]
  refine via (Entails.of_eq (fam_add 4 12 fun s => gpts c (blk c s) fullShare f)) ?_
  unfold famG
  iintro ⟨H1, H2⟩
  isplitl [H1]
  · ihave H := (gown_fam c f) $$ H1
    iapply (each (F := F) fun s : Fin 16 => pG_first' m c f s)
    iexact H
  · iapply (lands_dealt (F := F) c)
    iapply (each (F := F) fun y : Fin 12 => land_place c y f)
    iexact H2
theorem famG_last : famG m c 4 12 12 12 ⊢ ((c : Thread nD τ).loc cc0_scratch0 ↦{fullShare} XG m : sProp 𝕄) := by
  rw [gslots]; unfold famG
  exact bigSep_mono fun s _ => by rw [stG_last, pG_1]; exact BI.Entails.refl _

/-! ## The transfers -/

theorem stR_first : ∀ y : Fin 12, stR 0 y = 0 := by decide
theorem stR_last : ∀ y : Fin 12, stR 12 y = 1 := by decide
theorem stS_last : ∀ y : Fin 12, stS 12 12 y = 2 := by decide

omit [FloatOps F] in
theorem famR_first :
    iprop((bigSep Finset.univ fun y : Fin 12 => cred (tallyAt (recvCell c y) () N)) ∗ bigSep Finset.univ fun y : Fin 12 => atPos ER (recvCell c y) 0 ∅ 0)
      ⊢ famR (F := F) c 0 := by
  rw [← bigSep_sep']; unfold famR
  exact bigSep_mono fun y _ => by rw [stR_first]; exact BI.Entails.refl _
omit [FloatOps F] in
theorem famR_last : famR (F := F) c 12 ⊢ bigSep Finset.univ fun y : Fin 12 => semVal (recvCell c y) 0 := by
  unfold famR; exact bigSep_mono fun y _ => by rw [stR_last]; exact BI.Entails.refl _
omit [FloatOps F] in
theorem famS_last : famS (F := F) c 12 12 ⊢ bigSep Finset.univ fun y : Fin 12 => semVal (sendCell c y) 0 := by
  unfold famS; exact bigSep_mono fun y _ => by rw [stS_last]; exact BI.Entails.refl _

end Cert.RingMM

end
-- ==== Proof.Deal.lean ====
/-
# The cells dealt

From the launch's ghost state each device gets its place at each of its own cells, the duties it pays and the credit of what the others owe it;
the cells' invariants are everyone's.
-/
module

public import proofs.«01_k».proof.Proof.Pieces

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the duties, counted -/

/-- A device's semaphores besides its barrier: of the copies of `x`, of `w`, of the result; of the sends; of the receives. -/
abbrev osem : (Fin 4 ⊕ Fin 2 ⊕ Fin 2) ⊕ Fin 12 ⊕ Fin 12 → SemLoc sig
  | .inl (.inl q) => .dma (xSem q)
  | .inl (.inr (.inl p)) => .dma (wSem p)
  | .inl (.inr (.inr p)) => .dma (oSem p)
  | .inr (.inl x) => .dma (sSem x)
  | .inr (.inr y) => .dma (rSem y)

set_option maxRecDepth 8000 in
theorem ownSemFacts : Pipeline.OwnSemFacts cfg0.spec osem := by decide

/-- The 25 cells as the barrier, the sends and the receives. -/
def kOf : Unit ⊕ Fin 12 ⊕ Fin 12 → Fin 25
  | .inl _ => 0
  | .inr (.inl x) => kS x
  | .inr (.inr y) => kR y
set_option maxRecDepth 8000 in
theorem kOf_bijective : Function.Bijective kOf := ⟨by decide, by decide⟩

omit [FloatOps F] in
theorem cells_eq (Φ : Fin 25 → sProp 𝕄) :
    bigSep Finset.univ Φ = iprop(Φ 0 ∗ (bigSep Finset.univ fun x : Fin 12 => Φ (kS x)) ∗ bigSep Finset.univ fun y : Fin 12 => Φ (kR y)) := by
  rw [bigSep_univ_equiv (Equiv.ofBijective kOf kOf_bijective) Φ, bigSep_univ_sum, bigSep_univ_sum]
  exact congrArg (fun A : sProp 𝕄 => iprop(A ∗ (bigSep Finset.univ fun x : Fin 12 => Φ (kS x)) ∗ bigSep Finset.univ fun y : Fin 12 => Φ (kR y)))
    (bigSep_univ_eq_bigSepL [()] (by decide) (by decide) fun _ => Φ 0)

set_option maxRecDepth 8000 in
theorem csem_injective : Function.Injective csem := by decide
theorem kcell_injective : Function.Injective kcell := fun ⟨c, k⟩ ⟨c', k'⟩ h => by
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's own cells' duties: its barrier's two, a send's, a receive's. -/
def duty : Bool ⊕ Fin 12 ⊕ Fin 12 → SemLoc sig × Bool
  | .inl b => (.reg barS, b)
  | .inr (.inl x) => (.dma (sSem x), false)
  | .inr (.inr y) => (.dma (rSem y), false)
set_option maxRecDepth 8000 in
theorem duty_injective : Function.Injective duty := by decide
def tokOf (cj : Dev nD × (Bool ⊕ Fin 12 ⊕ Fin 12)) : GSem nD τ sig × ℕ × Bool := (((cj.1 : Thread nD τ), (duty cj.2).1), 0, (duty cj.2).2)
theorem tokOf_injective : Function.Injective tokOf := fun ⟨c, j⟩ ⟨c', j'⟩ h => by
  have h1 : c = c' := congrArg (fun x : GSem nD τ sig × ℕ × Bool => x.1.1.1) h
  have h2 : j = j' := duty_injective (congrArg (fun x : GSem nD τ sig × ℕ × Bool => (x.1.2, x.2.2)) h)
  rw [h1, h2]
def ringToks : Finset (GSem nD τ sig × ℕ × Bool) := Finset.univ.map ⟨tokOf, tokOf_injective⟩

/-- The launch's ghost element: the pipeline's rounds, the ring's, no copy under way. -/
def u₀ : UU :=
  (initOf (Pipeline.cells cfgs cellOf_inj) (Pipeline.launchToks cfgs cellOf_inj), (initOf ringCells ringToks, (1 : Counters)))

/-- The duties of device `c`'s own cells. -/
def toks (c : Dev nD) : sProp 𝕄 :=
  iprop((dutyTok ER (barCell c) 0 true ∗ dutyTok ER (barCell c) 0 false) ∗ (bigSep Finset.univ fun x : Fin 12 => dutyTok ER (sendCell c x) 0 false)
    ∗ bigSep Finset.univ fun y : Fin 12 => dutyTok ER (recvCell c y) 0 false)
/-- The places at device `c`'s own cells. -/
def places (c : Dev nD) : sProp 𝕄 := bigSep Finset.univ fun k : Fin 25 => atPos ER (kcell (c, k)) 0 ∅ 0
def opened (c : Dev nD) : sProp 𝕄 := bigSep Finset.univ fun k : Fin 25 => reached ER (kcell (c, k)) 0

def G (c : Dev nD) : sProp 𝕄 :=
  iprop((bigSep Finset.univ fun k : Fin 25 => roundState ER (ring m) (kcell (c, k)) 0) ∗ (places (F := F) c ∗ opened (F := F) c) ∗ toks (F := F) c)

omit [FloatOps F] in
theorem cells_fam (Φ : GSem nD τ sig → sProp 𝕄) :
    bigSep ringCells Φ = bigSep Finset.univ fun c : Dev nD => bigSep Finset.univ fun k : Fin 25 => Φ (kcell (c, k)) := by
  unfold ringCells; rw [bigSep_map, bigSep_univ_prod]; rfl

omit [FloatOps F] in
theorem toks_eq (c : Dev nD) :
    (bigSep Finset.univ fun j : Bool ⊕ Fin 12 ⊕ Fin 12 => (dutyTok ER (tokOf (c, j)).1 (tokOf (c, j)).2.1 (tokOf (c, j)).2.2 : sProp 𝕄)) = toks c := by
  rw [bigSep_univ_sum, bigSep_univ_sum]
  unfold toks
  exact congrArg (fun A : sProp 𝕄 => iprop(A ∗ (bigSep Finset.univ fun x : Fin 12 => dutyTok ER (sendCell c x) 0 false)
      ∗ bigSep Finset.univ fun y : Fin 12 => dutyTok ER (recvCell c y) 0 false))
    (bigSep_univ_eq_bigSepL [true, false] (by decide) (by decide) fun b : Bool => (dutyTok ER (barCell c) 0 b : sProp 𝕄))

omit [FloatOps F] in
theorem toks_fam : bigSep ringToks (fun x => (dutyTok ER x.1 x.2.1 x.2.2 : sProp 𝕄)) = bigSep Finset.univ fun c : Dev nD => toks c := by
  unfold ringToks; rw [bigSep_map, bigSep_univ_prod]
  exact bigSep_congr fun c _ => toks_eq c

theorem fund_ring : BI.own (ER (initOf ringCells ringToks)) ⊢ (|==> bigSep Finset.univ (G m) : sProp 𝕄) := by
  iintro HX
  imod (Rounds.fund ER (ring m) ringCells ringToks) $$ HX with ⟨Hst, Hr, Hat, Htok⟩
  imodintro
  ihave Hst' := (Entails.of_eq (cells_fam fun g => roundState ER (ring m) g 0)) $$ Hst
  ihave Hat' := (Entails.of_eq (cells_fam fun g => atPos ER g 0 ∅ 0)) $$ Hat
  ihave Hr' := (Entails.of_eq (cells_fam fun g => reached ER g 0)) $$ Hr
  ihave Htok' := (Entails.of_eq (toks_fam (F := F))) $$ Htok
  unfold G places opened; simp only [bigSep_sep']
  isplitl [Hst']; · iexact Hst'
  isplitl [Hat' Hr']
  · isplitl [Hat'] <;> iassumption
  iexact Htok'

/-! ## The semaphores -/

/-- The local copies' semaphores at zero, and the transfers'. -/
def localSems (c : Dev nD) : sProp 𝕄 :=
  iprop((bigSep Finset.univ fun q : Fin 4 => zero (F := F) c (xSem q)) ∗ (bigSep Finset.univ fun p : Fin 2 => zero (F := F) c (wSem p))
    ∗ bigSep Finset.univ fun p : Fin 2 => zero (F := F) c (oSem p))
def ringSems (c : Dev nD) : sProp 𝕄 :=
  iprop((bigSep Finset.univ fun x : Fin 12 => semVal (sendCell c x) 0) ∗ bigSep Finset.univ fun y : Fin 12 => semVal (recvCell c y) 0)

omit [FloatOps F] in
theorem ownSems0_eq (c : Dev nD) : (Pipeline.ownSems0 (Ix := Unit) (Name := ℕ) (U := UU) (Lvl := ℕ) (Val := Elt F) (τ := τ) osem c : sProp 𝕄)
    = iprop(localSems (F := F) c ∗ ringSems (F := F) c) := by
  unfold Pipeline.ownSems0
  rw [bigSep_univ_sum, bigSep_univ_sum, bigSep_univ_sum, bigSep_univ_sum]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ring_zero (c : Dev nD) :
    iprop(ringSems (F := F) c ∗ semVal (barCell c) 0) ⊢ (bigSep Finset.univ fun k : Fin 25 => semVal (kcell (c, k)) 0 : sProp 𝕄) := by
  rw [cells_eq]
  unfold ringSems
  rw [show (fun x : Fin 12 => (semVal (kcell (c, kS x)) 0 : sProp 𝕄)) = fun x : Fin 12 => semVal (sendCell c x) 0 from
      funext fun x => by dsimp only [kcell]; rw [csem_S],
    show (fun x : Fin 12 => (semVal (kcell (c, kR x)) 0 : sProp 𝕄)) = fun x : Fin 12 => semVal (recvCell c x) 0 from
      funext fun x => by dsimp only [kcell]; rw [csem_R]]
  iintro ⟨⟨HS, HV⟩, HB⟩
  isplitl [HB]; · iexact HB
  isplitl [HS] <;> iassumption

/-- The cells' invariants, each at some name. -/
def invs (c : Dev nD) : sProp 𝕄 := bigSep Finset.univ fun k : Fin 25 => iprop(∃ κ : ℕ, cellInv ER (ring m) κ (kcell (c, k)))

theorem invs_alloc (c : Dev nD) :
    iprop((bigSep Finset.univ fun k : Fin 25 => semVal (kcell (c, k)) 0) ∗ bigSep Finset.univ fun k : Fin 25 => roundState ER (ring m) (kcell (c, k)) 0)
      ⊢ (|={Set.univ}=> invs m c : sProp 𝕄) := by
  unfold invs
  rw [← bigSep_sep']
  exact (bigSep_mono fun k _ => (Rounds.body_intro ER (ring m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(invs m c ∗ opened (F := F) c ∗ (localSems (F := F) c ∗ places (F := F) c) ∗ toks (F := F) c) := by
  unfold G
  rw [ownSems0_eq, unscopedSems0_eq]
  iintro ⟨⟨Hl, Hos⟩, Hus, Hst, ⟨Hat, Hr⟩, Htok⟩
  ihave Hv := (ring_zero (F := F) c) $$ [Hos Hus]
  · isplitl [Hos] <;> iassumption
  imod (invs_alloc m c) $$ [Hv Hst] with Hinv
  · isplitl [Hv] <;> iassumption
  imodintro
  isplitl [Hinv]; · iexact Hinv
  isplitl [Hr]; · iexact Hr
  isplitl [Hl Hat]
  · isplitl [Hl] <;> iassumption
  iexact Htok

/-! ## The duties dealt around the ring -/

def nxtE : Dev nD ≃ Dev nD := ⟨nxt, prv, prv_nxt, nxt_prv⟩
def dstE : Dev nD × Fin 12 ≃ Dev nD × Fin 12 :=
  ⟨fun p => (dst p.1 p.2, p.2), fun p => (src p.1 p.2, p.2), fun p => by show (src (dst p.1 p.2) p.2, p.2) = p; rw [src_dst],
    fun p => by show (dst (src p.1 p.2) p.2, p.2) = p; rw [dst_src]⟩

/-- The duties device `c` pays. -/
def payToks (c : Dev nD) : sProp 𝕄 :=
  iprop((dutyTok ER (barCell (prv c)) 0 true ∗ dutyTok ER (barCell (nxt c)) 0 false) ∗ (bigSep Finset.univ fun x : Fin 12 => dutyTok ER (sendCell c x) 0 false)
    ∗ bigSep Finset.univ fun x : Fin 12 => dutyTok ER (recvCell (dst c x) x) 0 false)

omit [FloatOps F] in
theorem recv_toks :
    (bigSep Finset.univ fun c : Dev nD => bigSep Finset.univ fun y : Fin 12 => (dutyTok ER (recvCell c y) 0 false : sProp 𝕄))
      = bigSep Finset.univ fun c : Dev nD => bigSep Finset.univ fun x : Fin 12 => dutyTok ER (recvCell (dst c x) x) 0 false := by
  rw [← bigSep_univ_prod fun p : Dev nD × Fin 12 => (dutyTok ER (recvCell p.1 p.2) 0 false : sProp 𝕄),
    bigSep_univ_equiv dstE, bigSep_univ_prod]
  rfl

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', recv_toks,
    bigSep_univ_equiv nxtE.symm (fun c : Dev nD => (dutyTok ER (barCell c) 0 true : sProp 𝕄)),
    bigSep_univ_equiv nxtE (fun c : Dev nD => (dutyTok ER (barCell c) 0 false : sProp 𝕄))]
  exact BI.Entails.refl _

/-! ## What each device gets -/

/-- Everyone's knowledge but the levels. -/
def records (K : Dev nD × Fin 25 → ℕ) : sProp 𝕄 :=
  iprop((bigSep Finset.univ fun ck : Dev nD × Fin 25 => cellInv ER (ring m) (K ck) (kcell ck))
    ∗ bigSep Finset.univ fun ck : Dev nD × Fin 25 => reached ER (kcell ck) 0)
instance records_persistent (K : Dev nD × Fin 25 → ℕ) : BI.Persistent (records m K) := by unfold records; infer_instance

/-- A device's own part: its local semaphores, its places, the duties it pays. -/
def part (c : Dev nD) : sProp 𝕄 := iprop((localSems (F := F) c ∗ places (F := F) c) ∗ payToks (F := F) c)
def G' (c : Dev nD) : sProp 𝕄 := iprop(∃ K, records m K ∗ part (F := F) c)

theorem G'_intro (K : Dev nD × Fin 25 → ℕ) (c : Dev nD) : iprop(records m K ∗ part (F := F) c) ⊢ G' m c := by
  unfold G'; iintro H; iexists K; iexact H

omit [FloatOps F] in
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop(invs m c ∗ opened (F := F) c ∗ (localSems (F := F) c ∗ places (F := F) c) ∗ toks (F := F) c) : sProp 𝕄)
      ⊢ bigSep Finset.univ (G' m) := by
  rw [bigSep_sep', bigSep_sep', bigSep_sep']
  unfold invs opened
  rw [← bigSep_univ_prod (fun ck : Dev nD × Fin 25 => iprop(∃ κ : ℕ, cellInv ER (ring m) κ (kcell ck))),
    ← bigSep_univ_prod (fun ck : Dev nD × Fin 25 => (reached ER (kcell ck) 0 : sProp 𝕄))]
  iintro ⟨HI, #HR, Hat, Htok⟩
  ihave HK := (BI.bigSep_exists_pi Finset.univ (fun (ck : Dev nD × Fin 25) (κ : ℕ) => (cellInv ER (ring m) κ (kcell ck) : sProp 𝕄))) $$ HI
  icases HK with ⟨%K, #HI⟩
  ihave Htk := (toks_around (F := F)) $$ Htok
  iapply (to_each (R := records m K) (Φ := part (F := F)) fun c _ => G'_intro m K c)
  isplitr
  · unfold records; isplitl; · iexact HI
    iexact HR
  · unfold part
    iapply (Entails.of_eq (bigSep_sep' Finset.univ (fun c : Dev nD => iprop(localSems (F := F) c ∗ places (F := F) c)) (payToks (F := F))).symm)
    isplitl [Hat]; · iexact Hat
    iexact Htk

/-- Every device's semaphores and ghost state at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what is owed -/

theorem cell_dev {a b : Dev nD} {s t : SemLoc sig} (h : ((a : Thread nD τ), s) = ((b : Thread nD τ), t)) : a = b :=
  congrArg (fun g : GSem nD τ sig => g.1.1) h
theorem rSem_injective : ∀ x y : Fin 12, rSem x = rSem y → x = y := by decide

theorem rem_bar (d c : Dev nD) : ∀ k, rem d k (barCell c) () = 0
  | 0 => rfl
  | k + 1 => by
    rw [rem, Pi.add_apply, Finsupp.add_apply, rem_bar d c k, tallyAt_ne_cell fun h => dma_ne_bar _ (congrArg Prod.snd h).symm]; rfl

theorem rem_recv (d c : Dev nD) (y : Fin 12) : ∀ k, k ≤ 12 → rem d k (recvCell c y) () = if 12 ≤ (y : ℕ) + k ∧ d = src c y then N else 0
  | 0, _ => by rw [if_neg fun h => by have := y.isLt; omega]; rfl
  | k + 1, hk => by
    rw [rem, Pi.add_apply, Finsupp.add_apply, rem_recv d c y k (by omega), tallyAt_apply]
    by_cases hy : (y : ℕ) = 11 - k
    · rw [if_neg (fun h => by omega), Nat.zero_add, hy]
      by_cases hd : d = src c (11 - k)
      · subst hd
        rw [dst_src, if_pos ⟨rfl, rfl⟩, if_pos ⟨by omega, rfl⟩]
      · rw [if_neg fun h => hd (by rw [cell_dev h.1, src_dst]), if_neg fun h => hd h.2]
    · rw [if_neg (c := recvCell c y = _ ∧ _) (fun h => hy (by
        have h1 : rSem y = rSem (11 - k) := SemLoc.dma.inj (congrArg Prod.snd h.1)
        exact congrArg Fin.val (rSem_injective y ⟨11 - k, by omega⟩ h1))), Nat.add_zero]
      by_cases h : 12 ≤ (y : ℕ) + k ∧ d = src c y
      · rw [if_pos h, if_pos ⟨by omega, h.2⟩]
      · rw [if_neg h, if_neg fun h' => h ⟨by omega, h'.2⟩]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, rem_bar, Nat.zero_add, tallyAt_apply, tallyAt_apply]
  congr 1
  · by_cases h : d = prv c
    · subst h; rw [nxt_prv, if_pos ⟨rfl, rfl⟩, if_pos rfl]
    · rw [if_neg (fun ⟨h1, _⟩ => h (by rw [cell_dev h1, prv_nxt])), if_neg h]
  · by_cases h : d = nxt c
    · subst h; rw [prv_nxt, if_pos ⟨rfl, rfl⟩, if_pos rfl]
    · rw [if_neg (fun ⟨h1, _⟩ => h (by rw [cell_dev h1, nxt_prv])), if_neg h]

theorem owed_recv (d c : Dev nD) (y : Fin 12) : O₀ d (recvCell c y) () = if d = src c y then N else 0 := by
  unfold O₀ O₁
  rw [Pi.add_apply, Finsupp.add_apply, Pi.add_apply, Finsupp.add_apply, rem_recv d c y 12 (le_refl _),
    tallyAt_ne_cell (fun h => dma_ne_bar _ (congrArg Prod.snd h)), tallyAt_ne_cell (fun h => dma_ne_bar _ (congrArg Prod.snd h)), Finsupp.zero_apply, Nat.add_zero, Nat.add_zero]
  by_cases h : d = src c y
  · rw [if_pos ⟨by omega, h⟩, if_pos h]
  · rw [if_neg fun h' => h h'.2, if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (y : Fin 12) :
    tallyOn (recvCell c y) (launchCredit (Pipeline.owing O₀) 0 (recvCell c y)) = (tallyAt (recvCell c y) () N : CellTallies nD τ sig Unit) := by
  unfold tallyAt; refine congrArg _ (Finsupp.ext fun u => ?_); cases u
  rw [Pipeline.launchCredit_owing, Finsupp.single_eq_same, Finset.sum_congr rfl fun d _ => owed_recv d c y, Finset.sum_ite_eq' Finset.univ (src c y) fun _ => N,
    if_pos (Finset.mem_univ _)]

/-- The twelve receive semaphores. -/
def recvSems : Finset (SemLoc sig) := Finset.univ.image fun y : Fin 12 => SemLoc.dma (rSem y)

omit [FloatOps F] in
theorem creds (c : Dev nD) :
    (Pipeline.launchCred O₀ c : sProp 𝕄)
      ⊢ iprop(cred (tallyAt (barCell c) () 2) ∗ bigSep Finset.univ fun y : Fin 12 => cred (tallyAt (recvCell c y) () N)) := by
  unfold Pipeline.launchCred
  rw [bigSep_univ_at _ (SemLoc.reg barS), launch_bar]
  refine sep_mono_right ?_
  refine (bigSep_subset (t := recvSems) fun s hs => ?_).trans ?_
  · obtain ⟨y, -, rfl⟩ := Finset.mem_image.1 hs
    exact Finset.mem_erase.mpr ⟨dma_ne_bar _, Finset.mem_univ _⟩
  · unfold recvSems
    rw [bigSep_image_of_injOn fun x _ y _ h => rSem_injective x y (SemLoc.dma.inj h)]
    exact bigSep_mono fun y _ => by rw [launch_recv]; exact BI.Entails.refl _

end Cert.RingMM

end
-- ==== Proof.Launch.lean ====
/-
# The run

The body's run from the launch's holdings to the whole buffers again, on every device, and what the program leaves in memory.
-/
module

public import proofs.«01_k».proof.Proof.Deal
public import Idealize.ShloMosaic.Lib.Quiescent
public import Idealize.ShloMosaic.Lib.Pipeline.CollectiveSegs

@[expose] public section

noncomputable section

namespace Cert.RingMM

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ) (c : Dev nD)

/-! ## Into the body -/

omit [FloatOps F] in
theorem places_eq : places (F := F) c ⊢ iprop(atPos ER (barCell c) 0 ∅ 0 ∗ (bigSep Finset.univ fun x : Fin 12 => atPos ER (sendCell c x) 0 ∅ 0)
    ∗ bigSep Finset.univ fun y : Fin 12 => atPos ER (recvCell c y) 0 ∅ 0) := by
  unfold places
  rw [cells_eq,
    show (fun x : Fin 12 => (atPos ER (kcell (c, kS x)) 0 ∅ 0 : sProp 𝕄)) = fun x : Fin 12 => atPos ER (sendCell c x) 0 ∅ 0 from
      funext fun x => by dsimp only [kcell]; rw [csem_S],
    show (fun x : Fin 12 => (atPos ER (kcell (c, kR x)) 0 ∅ 0 : sProp 𝕄)) = fun x : Fin 12 => atPos ER (recvCell c x) 0 ∅ 0 from
      funext fun x => by dsimp only [kcell]; rw [csem_R]]
  exact BI.Entails.refl _

omit [FloatOps F] in
theorem toSend_all :
    iprop((bigSep Finset.univ fun x : Fin 12 => dutyTok ER (sendCell c x) 0 false) ∗ (bigSep Finset.univ fun x : Fin 12 => dutyTok ER (recvCell (dst c x) x) 0 false)
      ∗ bigSep Finset.univ fun x : Fin 12 => atPos ER (sendCell c x) 0 ∅ 0) ⊢ bigSep Finset.univ fun x : Fin 12 => toSend (F := F) c x := by
  unfold toSend
  rw [bigSep_sep', bigSep_sep']

/-- The arrays the body reads and writes in place. -/
def arrays (g : S4096x2048.Idx → Elt F .f32) : sProp 𝕄 :=
  iprop(((c : Thread nD τ).loc main_arg0 ↦{fullShare} X m c) ∗ ((c : Thread nD τ).loc main_arg1 ↦{fullShare} Wm m c)
    ∗ ((c : Thread nD τ).loc main_v1 ↦{fullShare} g))

/-- The launch's credit for device `c`'s barrier and receives. -/
def credit : sProp 𝕄 := iprop(cred (tallyAt (barCell c) () 2) ∗ bigSep Finset.univ fun y : Fin 12 => cred (tallyAt (recvCell c y) () N))

/-- The five scratch buffers, with some contents. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ ∃ f : Buf (Elt F) ((c : Thread nD τ).loc cc0_scratch4), (c : Thread nD τ).loc cc0_scratch4 ↦{fullShare} f)

theorem enter (g : S4096x2048.Idx → Elt F .f32) :
    iprop((records m K ∗ part (F := F) c) ∗ credit (F := F) c ∗ levAts L lv ∗ arrays m c g ∗ scratch (F := F) c ∗ ∃ W, owes (c : Thread nD τ) (O₀ c) W)
      ⊢ iprop(St0 m K c ∗ wrest m c) := by
  unfold part credit arrays scratch localSems payToks
  iintro ⟨⟨Hr, ⟨⟨HzX, HzW, HzO⟩, Hpl⟩, ⟨HtP, HtN⟩, HtS, HtV⟩, ⟨HcB, HcV⟩, Hlev, ⟨Ha0, Ha1, Hv1⟩, ⟨⟨%f0, H0⟩, ⟨%f1, H1⟩, ⟨%f2, H2⟩, ⟨%f3, H3⟩, ⟨%f4, H4⟩⟩, HO⟩
  ihave Hpl := (places_eq (F := F) c) $$ Hpl
  icases Hpl with ⟨HaB, HaS, HaV⟩
  ihave Ha1 := (w_cut m c) $$ Ha1
  icases Ha1 with ⟨Ha1, Hwr⟩
  ihave H0 := (famG_first m c f0) $$ H0
  icases H0 with ⟨HG, HbP, HbN⟩
  isplitr [Hwr]
  · unfold St0 barP pieces
    isplitl [Hr Hlev]
    · unfold env records
      isplitl [Hr] <;> iassumption
    isplitl [HO]; · iexact HO
    isplitl [HcB HaB HtP HtN]
    · isplitl [HcB]; · iexact HcB
      isplitl [HaB]; · iexact HaB
      isplitl [HtP] <;> iassumption
    isplitl [HbP HbN]
    · isplitl [HbP] <;> iassumption
    isplitl [HzX Ha0 H3]
    · iapply (famX_first m c f3)
      isplitl [H3]; · iexact H3
      isplitl [HzX] <;> iassumption
    isplitl [HzW Ha1 H2]
    · iapply (famW_first m c f2)
      isplitl [H2]; · iexact H2
      isplitl [HzW] <;> iassumption
    isplitl [H1]; · iapply (w8_first m c f1); iexact H1
    isplitl [HG]; · iexact HG
    isplitl [HtS HtV HaS]
    · iapply (toSend_all (F := F) c)
      isplitl [HtS]; · iexact HtS
      isplitl [HtV] <;> iassumption
    isplitl [HcV HaV]
    · iapply (famR_first (F := F) c)
      isplitl [HcV] <;> iassumption
    iapply (famO_first m c f4 g)
    isplitl [H4]; · iexact H4
    isplitl [HzO] <;> iassumption
  · iexact Hwr

/-! ## Out of it -/

/-- What a device holds after the body, besides its staged scales and that it owes nothing. -/
def after : sProp 𝕄 := iprop((semVal (barCell c) 0 ∗ arrays m c (OUT m c)) ∗ (localSems (F := F) c ∗ ringSems (F := F) c) ∗ scratch (F := F) c)

theorem leave :
    iprop(St m K c 4 4 4 8 8 8 12 12 12 16 16 16 ∗ semVal (barCell c) 0 ∗ wrest m c) ⊢ iprop(after m c ∗ ∃ W, owes (c : Thread nD τ) 0 W) := by
  unfold St owesP after arrays localSems ringSems scratch
  iintro ⟨⟨-, ⟨%W, HO⟩, HX, HW, H8, HG, HS, HR, HOf⟩, HB, Hwr⟩
  ihave HX := (famX_last m c) $$ HX
  icases HX with ⟨H3, HzX, Ha0⟩
  ihave HW := (famW_last m c) $$ HW
  icases HW with ⟨H2, HzW, Hw⟩
  ihave Ha1 := (w_join m c) $$ [Hw Hwr]
  · isplitl [Hw] <;> iassumption
  ihave H1 := (w8_last m c 8) $$ H8
  ihave H0 := (famG_last m c) $$ HG
  ihave HS := (famS_last (F := F) c) $$ HS
  ihave HR := (famR_last (F := F) c) $$ HR
  ihave HOf := (famO_last m c) $$ HOf
  icases HOf with ⟨H4, HzO, Hv1⟩
  isplitr [HO]
  · isplitl [HB Ha0 Ha1 Hv1]
    · isplitl [HB]; · iexact HB
      isplitl [Ha0]; · iexact Ha0
      isplitl [Ha1] <;> iassumption
    isplitl [HzX HzW HzO HS HR]
    · isplitl [HzX HzW HzO]
      · isplitl [HzX]; · iexact HzX
        isplitl [HzW] <;> iassumption
      isplitl [HS] <;> iassumption
    isplitl [H0]; · (iexists (XG m); iexact H0)
    isplitl [H1]; · iexact H1
    isplitl [H2]; · iexact H2
    isplitl [H3]; · (iexists (XS m c); iexact H3)
    iexact H4
  · iexists W; iexact HO

/-! ## The body's obligation -/

/-- What a device starts with: its part of the ghost state, the credit, the levels, the arrays. -/
def start : sProp 𝕄 :=
  iprop(G' m c ∗ credit (F := F) c ∗ levAts L lv ∗ arrays m c (m ((c : Thread nD τ).loc main_v1)))

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
  Φ t := match t with
    | ⟨0, _⟩ => iprop(start m c ∗ scratch (F := F) c)
    | ⟨_ + 1, _⟩ => Cert.RingMM.after m c
  q _ := fullShare
  owed t := match t with
    | ⟨0, _⟩ => O₀ c
    | ⟨_ + 1, _⟩ => 0

/-- A staged scale. -/
abbrev staged (c : Dev nD) (b : Ref sig .tc) (x : b.ty.Contents (Elt F)) : sProp 𝕄 :=
  iprop(∃ f : Buf (Elt F) ((c : Thread nD τ).loc b), ⌜f = x⌝ ∗ ((c : Thread nD τ).loc b ↦{fullShare} f))

omit [FloatOps F] in
theorem owns_staged (c : Dev nD) (b : Ref sig .tc) (x : b.ty.Contents (Elt F)) :
    (owns (Ix := Unit) (Name := ℕ) (U := UU) (Lvl := ℕ) (c : Thread nD τ) (Memref.whole b) fullShare x : sProp 𝕄) = staged c b x := by
  unfold owns; simp only [Memref.view_whole, View.read_whole, View.set_whole]

theorem before0 (d) : (dats m ρ 0 c).before (0 : Fin 2) t0_0 d = iblk m c 0 t0_0 := by
  unfold Dat.before; rw [if_pos (fetch0_0 t0_0)]; rfl
theorem before1 (d) : (dats m ρ 0 c).before (1 : Fin 2) t0_0 d = iblk m c 1 t0_0 := by
  unfold Dat.before; rw [if_pos (fetch0_1 t0_0)]; rfl

/-- The body, as the launch calls it. -/
abbrev body : Prog (TpuEff nD τ sig (Elt F) Λ₀ .tc) PUnit :=
  cc0_body xM (Memref.isWhole_whole _) wM (Memref.isWhole_whole _) sxM (Memref.isWhole_whole _) swM (Memref.isWhole_whole _) oM (Memref.isWhole_whole _)
    gM (Memref.isWhole_whole _) w8M (Memref.isWhole_whole _) wsM (Memref.isWhole_whole _) xsM (Memref.isWhole_whole _) stM (Memref.isWhole_whole _)
    cc0_scratch5 cc0_scratch6 cc0_scratch7 cc0_scratch8 cc0_scratch9 cc0_scratch10 cc0_scratch11

def bodyPre : sProp 𝕄 :=
  iprop((start m c ∗ scratch (F := F) c) ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
def bodyPost : sProp 𝕄 :=
  iprop(Cert.RingMM.after m c ∗ (dats m ρ 0 c).owesAt () t0_0.succ ∗ staged c cc0_stg0_0 (iblk m c 0 t0_0) ∗ staged c cc0_stg1_0 (iblk m c 1 t0_0))

/-- Out of the body with the staged scales. -/
theorem leave_all :
    iprop(wrest m c ∗ St m K c 4 4 4 8 8 8 12 12 12 16 16 16 ∗ semVal (barCell c) 0 ∗ stg c (iblk m c 0 t0_0) (iblk m c 1 t0_0)) ⊢ bodyPost m ρ c := by
  unfold bodyPost stg Dat.owesAt Pipeline.owesWithin
  rw [show (dats m ρ 0 c).owed t0_0.succ = 0 from rfl]
  iintro ⟨Hwr, HSt, HB, Hg0, Hg1⟩
  ihave H := (leave m K c) $$ [HSt HB Hwr]
  · isplitl [HSt]; · iexact HSt
    isplitl [HB] <;> iassumption
  icases H with ⟨Ha, %W, HO⟩
  isplitl [Ha]; · iexact Ha
  isplitl [HO]
  · iexists W
    isplitr; · ipureintro; exact fun _ _ => Or.inl trivial
    iexact HO
  isplitl [Hg0]
  · iexists _; isplitr; · (ipureintro; rfl)
    iexact Hg0
  iexists _; isplitr; · (ipureintro; rfl)
  iexact Hg1

theorem scale_eq : k0_pay1 ((iblk m c 0 t0_0 : S1.Idx → Elt F .f32) (ix1 (0 : Fin 1))) ((iblk m c 1 t0_0 : S1.Idx → Elt F .f32) (ix1 (0 : Fin 1))) = sc m c :=
  congrArg₂ k0_pay1 (congrArg (m ((c : Thread nD τ).loc main_arg2)) (one_idx _ _)) (congrArg (m ((c : Thread nD τ).loc main_arg3)) (one_idx _ _))

theorem body_framed :
    iprop(wrest m c ∗ St0 m K c ∗ stg c (iblk m c 0 t0_0) (iblk m c 1 t0_0)) ⊢ WP c (body (F := F)) (fun _ => bodyPost m ρ c) :=
  (sep_mono_right (body_run m K (scale_eq m c))).trans ((wp_frame_l _ _ _).trans (wp_mono _ _ _ fun _ => leave_all m ρ K c))

theorem sound_body : bodyPre m ρ c ⊢ WP c (body (F := F)) (fun _ => bodyPost m ρ c) := by
  unfold bodyPre start G' Dat.owesAt Pipeline.owesWithin
  rw [show (dats m ρ 0 c).owed t0_0.castSucc = O₀ c from rfl]
  iintro ⟨⟨⟨⟨%K, HG⟩, Hc, Hl, Ha⟩, Hs⟩, ⟨%W, %hW, HO⟩, ⟨%d0, %g0, %hg0, H0⟩, ⟨%d1, %g1, %hg1, H1⟩⟩
  obtain rfl : g0 = iblk m c 0 t0_0 := hg0.trans (before0 m ρ c d0)
  obtain rfl : g1 = iblk m c 1 t0_0 := hg1.trans (before1 m ρ c d1)
  ihave H := (enter m K c (m ((c : Thread nD τ).loc main_v1))) $$ [HG Hc Hl Ha Hs HO]
  · isplitl [HG]; · iexact HG
    isplitl [Hc]; · iexact Hc
    isplitl [Hl]; · iexact Hl
    isplitl [Ha]; · iexact Ha
    isplitl [Hs]; · iexact Hs
    iexists W; iexact HO
  icases H with ⟨HSt, Hwr⟩
  iapply (body_framed m ρ K c)
  isplitl [Hwr]; · iexact Hwr
  isplitl [HSt]; · iexact HSt
  unfold stg
  isplitl [H0] <;> iassumption

set_option maxRecDepth 100000 in
theorem body_obligation : BodyObligation (dats (F := F) m ρ 0 c) (defs₀ (F := F)) 𝒱₀ () Set.univ := fun t => by
  rw [fin_N0 t]
  rw [bigSep_W0, bigSep_W0]
  simp only [owns_staged]
  exact sound_body m ρ c

/-! ## The launch -/

theorem share_eq (c : Dev nD) (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨Ha, Hlev, Hcr, -, HG⟩
  ihave Hc := (creds (F := F) c) $$ Hcr
  imodintro
  unfold start arrays credit
  isplitl
  · isplitl [HG]; · iexact HG
    isplitl [Hc]; · iexact Hc
    isplitl [Hlev]; · iexact Hlev
    iexact Ha
  · iempintro

theorem first_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch (F := F) c) from rfl, show cfg0.spec = spec0 from rfl, scopedRest0_eq]
  unfold scratch
  iintro ⟨Hs, -, Hr⟩
  isplitl [Hs] <;> iassumption

theorem last_exit :
    (dats m ρ 0 c).Φ (Fin.last cfg0.N) ⊢ iprop((unscopedSems0 c ∗ arrays m c (OUT m c)) ∗ Pipeline.ownSems0 osem c ∗ Pipeline.scopedRest cfg0.spec c) := by
  rw [show (dats m ρ 0 c).Φ (Fin.last cfg0.N) = Cert.RingMM.after m c from rfl, show cfg0.spec = spec0 from rfl, scopedRest0_eq, ownSems0_eq, unscopedSems0_eq]
  unfold after scratch
  iintro H; iexact H

theorem stage_low : ∀ (w : Fin 2) (s : Fin (spec0 w).nbuf), isR ((spec0 w).sem s) = false := by decide

theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_start c _ (stage_low w s)
    · exact mayWait_low c _ (stage_low w s) 0 (Nat.zero_le _)

/-! ## What the run leaves -/

/-- Device `c`'s arrays in memory: `x` and `w` as launched, the result, and its unscoped semaphores at zero. -/
def QY (c : Dev nD) (s : MemSt nD τ sig (Elt F)) : Prop :=
  (s.mem ((c : Thread nD τ).loc main_arg0) = X m c ∧ s.mem ((c : Thread nD τ).loc main_arg1) = Wm m c ∧ s.mem ((c : Thread nD τ).loc main_v1) = OUT m c)
    ∧ ∀ sm : SemLoc sig, sm.isScoped .tc = false → s.sem ((c.tc : Thread nD τ), sm) = 0

theorem arrays_read (s' : Phys nD τ sig (Elt F)) :
    iprop(arrays m c (OUT m c) ∗ SI s') ⊢ (iprop(⌜s'.mem.mem ((c : Thread nD τ).loc main_arg0) = X m c ∧ s'.mem.mem ((c : Thread nD τ).loc main_arg1) = Wm m c
      ∧ s'.mem.mem ((c : Thread nD τ).loc main_v1) = OUT m c⌝ ∗ SI s') : sProp 𝕄) := by
  unfold arrays
  iintro ⟨⟨H0, H1, H2⟩, HSI⟩
  icombine HSI H0 gives %h0
  icombine HSI H1 gives %h1
  icombine HSI H2 gives %h2
  isplitr
  · ipureintro; exact ⟨Buf.eq_of_forall_mem_univ h0, Buf.eq_of_forall_mem_univ h1, Buf.eq_of_forall_mem_univ h2⟩
  · iexact HSI

theorem final_read (s' : Phys nD τ sig (Elt F)) :
    iprop((unscopedSems0 c ∗ arrays m c (OUT m c)) ∗ emp ∗ SI s') ⊢ |={Set.univ}=> (iprop(⌜QY m c s'.mem⌝ ∗ SI s') : sProp 𝕄) := by
  iintro ⟨⟨Hu, Ha⟩, -, HSI⟩
  ihave H := (arrays_read m c s') $$ [Ha HSI]
  · isplitl [Ha] <;> iassumption
  icases H with ⟨%ha, HSI⟩
  imod (Pipeline.unscopedSems0_read (X := unscopedSems0 c) (c := c) fupd_intro s') $$ [Hu HSI] with ⟨%hz, HSI⟩
  · isplitl [Hu] <;> iassumption
  imodintro
  isplitr; · ipureintro; exact ⟨ha, hz⟩
  iexact HSI

omit [FloatOps F] in
theorem ownU_three (a : UR sig nD τ) (b : UB) :
    (ownU (a, (b, (1 : Counters))) : sProp 𝕄) ⊢ iprop(BI.own (EP a) ∗ BI.own (ER b)) :=
  BI.own_op_elim ((uEmb : UEmb UU 𝕄).toEmb.op_of_mem (Prod.mk_mem_op (URA.mem_op_one a) (URA.mem_one_op (b, (1 : Counters)))))

/-- What the program leaves: every device's arguments as launched, its result computed. -/
def Post (r : PUnit × MemSt nD τ sig (Elt F)) : Prop :=
  (∀ c : Dev nD, (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
    ∧ r.2.mem ((c : Thread nD τ).loc main_v1) = OUT m c) ∧ r.2.sem = fun _ => 0

set_option maxRecDepth 100000 in
/-- On four devices, for any float values, from any memory with zero counters: every weakly fair execution of the program terminates,
    the arguments unchanged, device `c`'s result `OUT m c`, every semaphore at zero. -/
theorem run_main : θ_run defs (onTc (τ := τ) (main (F := F))) (s₀ m ρ) (Post m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_three _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ arrays m c (OUT m c))) (Z := fun _ => iprop(emp))
    (hX := start_intro m ρ) (hin := first_intro m ρ) (hout := last_exit m ρ)
    (QY := QY m)
    (hY := final_read m)
    (hQ := fun _ h hs => ⟨fun c => ⟨⟨(h c).2.2.1.1, (h c).2.2.1.2.1, ((h c).1 (0 : Fin 2)).trans ((dats m ρ 0 c).arrAt_in (0 : Fin 2) rfl _),
        ((h c).1 (1 : Fin 2)).trans ((dats m ρ 0 c).arrAt_in (1 : Fin 2) rfl _)⟩, (h c).2.2.1.2.2⟩,
      sem_eq_zero hs fun c => (h c).2.2.2⟩)

end Cert.RingMM

end
-- ==== Proof.Value.lean ====
/-
# The value, floats read as extended reals

What a device's result array holds is its block of columns of the reference's result: the kernel's product of a block of 256 rows
by the device's 2048 columns, scaled and clipped, is the reference's at the same rows and columns.
-/
module

public import proofs.«01_k».proof.Proof.Geom
public import proofs.«01_k».proof.Proof.Gen.ReferenceIdeal.Run
public import Idealize.ShloMosaic.Lib.Pointwise
public import Idealize.ShloMosaic.Lib.Layout

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The payloads at an index -/

theorem quarter_at (v : Vec Ideal S1x256x4096 .f32) (r : Fin 256) (l : Fin 4096) : k0_pay2 v (ValueIdx.ix2 r l) = v (ValueIdx.ix3 (0 : Fin 1) r l) := by
  pointwise [k0_pay2]
  simp only [ix1_eq_valueIdx, ix2_eq_valueIdx, ix3_eq_valueIdx]

theorem chunk_at (v : Vec Ideal S1x512x2048 .f32) (r : Fin 512) (l : Fin 2048) : k0_pay7 v (ValueIdx.ix2 r l) = v (ValueIdx.ix3 (0 : Fin 1) r l) := by
  pointwise [k0_pay7]
  simp only [ix1_eq_valueIdx, ix2_eq_valueIdx, ix3_eq_valueIdx]

theorem block_at (s : Ideal .f32) (a : Vec Ideal S256x4096 .fp8e4m3) (b : Vec Ideal S4096x2048 .fp8e4m3) (r : Fin 256) (l : Fin 2048) :
    k0_pay17 s a b (ValueIdx.ix3 (0 : Fin 1) r l) = max ((∑ k : Fin 4096, (a (ValueIdx.ix2 r k) : EReal) * b (ValueIdx.ix2 k l)) * s) (0 : EReal) := by
  pointwise [k0_pay17]
  simp only [ix1_eq_valueIdx, ix2_eq_valueIdx, ix3_eq_valueIdx]

/-! ## The gathered arrays -/

variable (m : (ℓ : Loc nD τ sig) → Buf (Elt Ideal) ℓ) (c : Dev nD)

theorem tiles_x : Layout.Tiles ⟨2, ![1024, 4096]⟩ ⟨2, ![4096, 4096]⟩ 0 4 := by decide
theorem tiles_o : Layout.Tiles ⟨2, ![4096, 2048]⟩ ⟨2, ![4096, 8192]⟩ 1 4 := by decide

/-- The gathered `x` is the whole `x`. -/
theorem gathered_x (x : (⟨2, ![4096, 4096]⟩ : Shape).Idx → EReal) (hx : ∀ c : Dev nD, X m c = Layout.block ⟨2, ![1024, 4096]⟩ ⟨2, ![4096, 4096]⟩ 0 4 c x)
    (r : Fin 4096) (k : Fin 4096) : (XG m (ValueIdx.ix2 r k) : EReal) = x (ValueIdx.ix2 r k) := by
  have hr := r.isLt
  show k0_pay2 (xt m ((r : ℕ) / 256)) (ValueIdx.ix2 (⟨(r : ℕ) % 256, _⟩ : Fin 256) k) = _
  rw [quarter_at]
  show X m _ _ = _
  rw [hx]
  refine congrArg x (funext fun a => ?_)
  match a with
  | ⟨0, _⟩ =>
    refine Fin.ext ?_
    show (r : ℕ) / 256 / 4 % 4 * 1024 + (256 * ((r : ℕ) / 256 % 4) + (r : ℕ) % 256) = (r : ℕ)
    omega
  | ⟨1, _⟩ => rfl

/-- The cast weights are the device's columns of `w`. -/
theorem cast_w (k : Fin 4096) (l : Fin 2048) :
    (W8 m c (ValueIdx.ix2 k l) : EReal) = Wm m c (ValueIdx.ix2 k (⟨2048 * c.val + (l : ℕ), by have := c.isLt; have := l.isLt; have : nD = 4 := rfl; omega⟩ : Fin 8192)) := by
  have hk := k.isLt
  show k0_pay7 (wt m c ((k : ℕ) / 512)) (ValueIdx.ix2 (⟨(k : ℕ) % 512, _⟩ : Fin 512) l) = _
  rw [chunk_at]
  refine congrArg (Wm m c) (funext fun a => ?_)
  match a with
  | ⟨0, _⟩ =>
    refine Fin.ext ?_
    show (512 * ((k : ℕ) / 512) + (k : ℕ) % 512) % 4096 = (k : ℕ)
    omega
  | ⟨1, _⟩ => rfl

/-! ## The result -/

/-- The reference's result, of its arguments. -/
def RESULT (x : (⟨2, ![4096, 4096]⟩ : Shape).Idx → EReal) (w : (⟨2, ![4096, 8192]⟩ : Shape).Idx → EReal) (sx sw : (⟨1, ![1]⟩ : Shape).Idx → EReal) :
    FVec Ideal Cert.ReferenceIdeal.S4096x8192 .f32 :=
  maximumf (mulf (Host.dotGeneral (F := Ideal) (φ₁ := .f32) (φ₂ := .f32) Cert.ReferenceIdeal.dot_S4096x4096_S4096x8192_S4096x8192_1_0_0_1_n_n none x w)
    (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf (F := Ideal) (s := Cert.ReferenceIdeal.S1) (φ := .f32) sx sw))))
    (broadcastInDim Cert.ReferenceIdeal.S4096x8192 ![] Cert.ReferenceIdeal.Gen.bcast_S_S4096x8192 (constant Cert.ReferenceIdeal.S_ .f32 0x00000000#32))

theorem result_at (x w sx sw) (r : Fin 4096) (l : Fin 8192) :
    (RESULT x w sx sw (ValueIdx.ix2 r l) : EReal) = max ((∑ k : Fin 4096, x (ValueIdx.ix2 r k) * w (ValueIdx.ix2 k l)) * (sx (ValueIdx.ix1 (0 : Fin 1)) * sw (ValueIdx.ix1 (0 : Fin 1)))) 0 := by
  pointwise [RESULT]
  simp only [ix1_eq_valueIdx, ix2_eq_valueIdx, ix3_eq_valueIdx]

theorem out_eq (x : (⟨2, ![4096, 4096]⟩ : Shape).Idx → EReal) (w : (⟨2, ![4096, 8192]⟩ : Shape).Idx → EReal) (sx sw : (⟨1, ![1]⟩ : Shape).Idx → EReal)
    (hx : ∀ c : Dev nD, X m c = Layout.block ⟨2, ![1024, 4096]⟩ ⟨2, ![4096, 4096]⟩ 0 4 c x) (hw : Wm m c = w)
    (h2 : m ((c : Thread nD τ).loc main_arg2) = sx) (h3 : m ((c : Thread nD τ).loc main_arg3) = sw) :
    OUT m c = Layout.block ⟨2, ![4096, 2048]⟩ ⟨2, ![4096, 8192]⟩ 1 4 c (RESULT x w sx sw) := by
  funext i
  have h0 : (i 0 : ℕ) < 4096 := (i 0).isLt
  have e : tiles_o.idx c i = ValueIdx.ix2 (i 0 : Fin 4096) (⟨2048 * c.val + (i 1 : ℕ), by have : (i 1 : ℕ) < 2048 := (i 1).isLt; have := c.isLt; have : nD = 4 := rfl; omega⟩ : Fin 8192) := by
    refine funext fun a => ?_
    match a with
    | ⟨0, _⟩ => rfl
    | ⟨1, _⟩ => exact Fin.ext (show c.val * 2048 + (i 1 : ℕ) = 2048 * c.val + (i 1 : ℕ) by omega)
  show k0_pay17 (sc m c) (xrows m ((i 0 : ℕ) / 256)) (W8 m c) (ValueIdx.ix3 (0 : Fin 1) (⟨(i 0 : ℕ) % 256, _⟩ : Fin 256) (i 1 : Fin 2048)) = RESULT x w sx sw (tiles_o.idx c i)
  refine (block_at _ _ _ (⟨(i 0 : ℕ) % 256, Nat.mod_lt _ (by decide)⟩ : Fin 256) (i 1 : Fin 2048)).trans ?_
  refine Eq.trans ?_ ((congrArg (RESULT x w sx sw) e).trans (result_at x w sx sw _ _)).symm
  have es : (sc m c : EReal) = sx (ValueIdx.ix1 (0 : Fin 1)) * sw (ValueIdx.ix1 (0 : Fin 1)) := by
    unfold sc; rw [h2, h3]; rfl
  refine congrArg₂ (fun s t : EReal => max (s * t) 0) (Finset.sum_congr rfl fun k _ => ?_) es
  refine congrArg₂ (fun s t : EReal => s * t) ?_ ((cast_w m c k (i 1 : Fin 2048)).trans (congrFun hw _))
  refine (gathered_x m x hx (⟨(256 * ((i 0 : ℕ) / 256) + (i 0 : ℕ) % 256) % 4096, Nat.mod_lt _ (by decide)⟩ : Fin 4096) k).trans ?_
  refine congrArg x (congrArg (fun r : Fin 4096 => ValueIdx.ix2 r k) (Fin.ext ?_))
  show (256 * ((i 0 : ℕ) / 256) + (i 0 : ℕ) % 256) % 4096 = (i 0 : ℕ)
  omega

end Cert.RingMM

end
-- ==== Proof.lean ====
/-
# The claims

The run (Proof/Launch.lean) is written once, over any float values: read at `Ideal` it is the idealized kernel's, at `Bits` the
kernel's, whose text is the same. The reference's run is the generated one. The value is Proof/Value.lean's `out_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The two kernels' body tables are one: the texts are the same. -/
theorem tables_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | ⟨0, _⟩, (t, s) => exact rfl

theorem frame_kernel : Cert.quiescent_Kernel := fun m ρ _ => by
  unfold Cert.Kernel.defs
  rw [tables_eq]
  exact (θ_run Cert.KernelIdeal.defs _ _).mono (fun _ h => ⟨fun c => (h.1 c).1, h.2⟩) (Cert.RingMM.run_main (F := Bits) m ρ)

theorem frame_ideal : Cert.quiescent_KernelIdeal := fun m ρ _ =>
  (θ_run Cert.KernelIdeal.defs _ _).mono (fun _ h => ⟨fun c => (h.1 c).1, h.2⟩) (Cert.RingMM.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ hagree =>
  ⟨Cert.RingMM.RESULT _ _ _ _,
    (θ_run Cert.KernelIdeal.defs _ _).mono
      (fun _ h c => ⟨(h.1 c).2.trans (Cert.RingMM.out_eq m c _ _ _ _ (fun d => (hagree d).1) (hagree c).2.1 (hagree c).2.2.1 (hagree c).2.2.2), (h.1 c).1⟩)
      (Cert.RingMM.run_main (F := Ideal) m ρ),
    (θ_run Cert.ReferenceIdeal.defs _ _).mono (fun _ h => h 0) (Cert.ReferenceIdeal.Value.run (F := Ideal) m' ρ')⟩

/-- Every claim, after the witnesses of the programs' facts. -/
theorem claim : Cert.Claim :=
  ⟨Cert.Kernel.Gen.facts, Cert.KernelIdeal.Gen.facts, Cert.ReferenceIdeal.Gen.facts, frame_kernel, frame_ideal, frame_reference, trivial, algebraic⟩

end Cert.Proof

end
